-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x32x32x64 : Shape := ⟨4, ![16, 32, 32, 64]⟩
abbrev S1024x64 : Shape := ⟨2, ![1024, 64]⟩
abbrev S_ : Shape := ⟨0, ![]⟩

class Facts : Prop where
  bcast_S_S16x32x32x64 : S_.BroadcastsInDim S16x32x32x64 (![] : Fin 0 → Fin S16x32x32x64.rank)
  reducesTo_S16x32x32x64_S_d0_1_2_3 : S16x32x32x64.ReducesTo [0, 1, 2, 3] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S16x32x32x64 .f32) (main_arg1 : FVec F S1024x64 .f32) : IVec S_ 1 :=
  let main_v0 : FVec F S16x32x32x64 .f32 := Host.absf main_arg0
  let main_cst : FVec F S_ .f32 := constant S_ .f32 0x7F800000#32
  let main_v1 : FVec F S16x32x32x64 .f32 := broadcastInDim S16x32x32x64 ![] bcast_S_S16x32x32x64 main_cst
  let main_v2 : IVec S16x32x32x64 1 := cmpf .olt main_v0 main_v1
  let main_c : IVec S_ 1 := constantI S_ 1 1#1
  let main_v3 : IVec S_ 1 := (fun x v => Host.reduce IntOp.andi x v reducesTo_S16x32x32x64_S_d0_1_2_3 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S16x32x32x64 : Shape := ⟨4, ![16, 32, 32, 64]⟩
abbrev S1024x64 : Shape := ⟨2, ![1024, 64]⟩
abbrev S16384x64 : Shape := ⟨2, ![16384, 64]⟩
abbrev S64x1024 : Shape := ⟨2, ![64, 1024]⟩
abbrev S1024 : Shape := ⟨1, ![1024]⟩
abbrev S1x1024 : Shape := ⟨2, ![1, 1024]⟩
abbrev S16x64x1024 : Shape := ⟨3, ![16, 64, 1024]⟩
abbrev S16x1x1024 : Shape := ⟨3, ![16, 1, 1024]⟩
abbrev S1x1 : Shape := ⟨2, ![1, 1]⟩
abbrev S2048x64 : Shape := ⟨2, ![2048, 64]⟩
abbrev S2x64x1024 : Shape := ⟨3, ![2, 64, 1024]⟩
abbrev S2x1x1024 : Shape := ⟨3, ![2, 1, 1024]⟩
abbrev S2048 : Shape := ⟨1, ![2048]⟩
abbrev S2048x1 : Shape := ⟨2, ![2048, 1]⟩
abbrev S2048x1024 : Shape := ⟨2, ![2048, 1024]⟩
abbrev S1x1x1024 : Shape := ⟨3, ![1, 1, 1024]⟩
abbrev S1024x2048 : Shape := ⟨2, ![1024, 2048]⟩
abbrev S1x2048 : Shape := ⟨2, ![1, 2048]⟩
abbrev S64x2048 : Shape := ⟨2, ![64, 2048]⟩
abbrev S1x64x1024 : Shape := ⟨3, ![1, 64, 1024]⟩
abbrev S1x2048x1 : Shape := ⟨3, ![1, 2048, 1]⟩
abbrev S1 : Shape := ⟨1, ![1]⟩
abbrev S1x1x1 : Shape := ⟨3, ![1, 1, 1]⟩
abbrev S16x64x32x32 : Shape := ⟨4, ![16, 64, 32, 32]⟩
abbrev S16x1x32x32 : Shape := ⟨4, ![16, 1, 32, 32]⟩
abbrev S_ : Shape := ⟨0, ![]⟩

abbrev nBuf : Space → Nat
  | .hbm => 14
  | .vmem => 11
  | .smem => 0
  | _ => 0

abbrev bufTy : (tb : Table) → Fin (tcTables nBuf tb) → BufTy
  | .hbm, ⟨0, _⟩ => ⟨S16x32x32x64, .f32⟩
  | .hbm, ⟨1, _⟩ => ⟨S1024x64, .f32⟩
  | .hbm, ⟨2, _⟩ => ⟨S16384x64, .f32⟩
  | .hbm, ⟨3, _⟩ => ⟨S64x1024, .f32⟩
  | .hbm, ⟨4, _⟩ => ⟨S1024, .f32⟩
  | .hbm, ⟨5, _⟩ => ⟨S1x1024, .f32⟩
  | .hbm, ⟨6, _⟩ => ⟨S16x64x1024, .f32⟩
  | .hbm, ⟨7, _⟩ => ⟨S16x1x1024, .i32⟩
  | .hbm, ⟨8, _⟩ => ⟨S1x1, .f32⟩
  | .hbm, ⟨9, _⟩ => ⟨S16x64x32x32, .f32⟩
  | .hbm, ⟨10, _⟩ => ⟨S16x1x32x32, .i32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S2048x64, .f32⟩
  | .local _ .vmem, ⟨1, _⟩ => ⟨S2048x64, .f32⟩
  | .local _ .vmem, ⟨2, _⟩ => ⟨S64x1024, .f32⟩
  | .local _ .vmem, ⟨3, _⟩ => ⟨S1024x64, .f32⟩
  | .local _ .vmem, ⟨4, _⟩ => ⟨S1x1024, .f32⟩
  | .local _ .vmem, ⟨5, _⟩ => ⟨S2x64x1024, .f32⟩
  | .local _ .vmem, ⟨6, _⟩ => ⟨S2x64x1024, .f32⟩
  | .local _ .vmem, ⟨7, _⟩ => ⟨S2x1x1024, .i32⟩
  | .local _ .vmem, ⟨8, _⟩ => ⟨S2x1x1024, .i32⟩
  | .local _ .vmem, ⟨9, _⟩ => ⟨S1x1, .f32⟩
  | .local _ .vmem, ⟨10, _⟩ => ⟨S1x1024, .f32⟩
  | _, _ => ⟨S16x32x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16x32x32x64 : Shape := ⟨4, ![16, 32, 32, 64]⟩
abbrev S1024x64 : Shape := ⟨2, ![1024, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S64x1024 : Shape := ⟨2, ![64, 1024]⟩
abbrev S16x32x32 : Shape := ⟨3, ![16, 32, 32]⟩
abbrev S16x64x32x32 : Shape := ⟨4, ![16, 64, 32, 32]⟩
abbrev S16x1x32x32 : Shape := ⟨4, ![16, 1, 32, 32]⟩

abbrev nBuf : Space → Nat
  | .hbm => 47
  | .vmem => 0
  | .smem => 0
  | _ => 0

abbrev bufTy : (tb : Table) → Fin (tcTables nBuf tb) → BufTy
  | .hbm, ⟨0, _⟩ => ⟨S16x32x32x64, .f32⟩
  | .hbm, ⟨1, _⟩ => ⟨S1024x64, .f32⟩
  | .hbm, ⟨2, _⟩ => ⟨S16384x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1024x64, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x64, .f32⟩
  | .hbm, ⟨16, _⟩ => ⟨S16384x64, .f32⟩
  | .hbm, ⟨17, _⟩ => ⟨S64x1024, .f32⟩
  | .hbm, ⟨18, _⟩ => ⟨S16384x1024, .f32⟩
  | .hbm, ⟨19, _⟩ => ⟨S16384x1024, .f32⟩
  | .hbm, ⟨20, _⟩ => ⟨S16384x1024, .i32⟩
  | .hbm, ⟨21, _⟩ => ⟨S_, .f32⟩
  | .hbm, ⟨22, _⟩ => ⟨S_, .i32⟩
  | .hbm, ⟨23, _⟩ => ⟨S16384, .f32⟩
  | .hbm, ⟨24, _⟩ => ⟨S16384, .i32⟩
  | .hbm, ⟨25, _⟩ => ⟨S16x32x32, .i32⟩
  | .hbm, ⟨26, _⟩ => ⟨S16384x1, .i32⟩
  | .hbm, ⟨27, _⟩ => ⟨S1x1024, .i32⟩
  | .hbm, ⟨28, _⟩ => ⟨S16384x1024, .i32⟩
  | .hbm, ⟨29, _⟩ => ⟨S16384x1024, .i32⟩
  | .hbm, ⟨30, _⟩ => ⟨S16384x1024, .i1⟩
  | .hbm, ⟨31, _⟩ => ⟨S16384x1024, .f32⟩
  | .hbm, ⟨32, _⟩ => ⟨S16384x64, .f32⟩
  | .hbm, ⟨33, _⟩ => ⟨S16x32x32x64, .f32⟩
  | .hbm, ⟨34, _⟩ => ⟨S16384x64, .f32⟩
  | .hbm, ⟨35, _⟩ => ⟨S16384x64, .f32⟩
  | .hbm, ⟨36, _⟩ => ⟨S16384x64, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S16x32x32x64, .f32⟩
  | .hbm, ⟨42, _⟩ => ⟨S16x32x32x64, .f32⟩
  | .hbm, ⟨43, _⟩ => ⟨S_, .f32⟩
  | .hbm, ⟨44, _⟩ => ⟨S_, .f32⟩
  | .hbm, ⟨45, _⟩ => ⟨S16x64x32x32, .f32⟩
  | .hbm, ⟨46, _⟩ => ⟨S16x1x32x32, .i32⟩
  | _, _ => ⟨S16x32x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Proof.RefOps.lean ====
/- The run of the reference program: the list of its host operations, and what each buffer that the results read
   holds once they have been carried out, as a function of the two arguments. -/
module

public import proofs.«01_k».proof.Proof.Gen.ReferenceIdeal
public import Idealize.ShloMosaic.Lib.Claim
public import Idealize.ShloMosaic.Lib.StableHlo.Run
public import Idealize.ShloMosaic.Lib.StableHlo.RunRead
public import Idealize.ShloMosaic.Lib.Pipeline.Regions

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- Stretch 0 of the host operations of the reference, in order. -/
abbrev ops0 : List (HloOp τ sig (Elt F)) :=
  [ reshape main_arg0 main_v0 (rfl : (.f32 : EltTy) = .f32) shapeCasts_S16x32x32x64_S16384x64,
    binary main_v0 main_v0 main_v1 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v1 main_cst main_v2 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v2 main_v3 (broadcastInDim S16384x1 ![0] bcast_S16384_S16384x1_0 : (⟨S16384, .f32⟩ : BufTy).Contents (Elt F) → (⟨S16384x1, .f32⟩ : BufTy).Contents (Elt F)),
    binary main_arg1 main_arg1 main_v4 (mulf : (⟨S1024x64, .f32⟩ : BufTy).Contents (Elt F) → (⟨S1024x64, .f32⟩ : BufTy).Contents (Elt F) → (⟨S1024x64, .f32⟩ : BufTy).Contents (Elt F)),
    nullary main_cst_0 (constant S_ .f32 0x00000000#32),
    binary main_v4 main_cst_0 main_v5 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v5 main_v6 (broadcastInDim S1x1024 ![1] bcast_S1024_S1x1024_1 : (⟨S1024, .f32⟩ : BufTy).Contents (Elt F) → (⟨S1x1024, .f32⟩ : BufTy).Contents (Elt F)),
    unary main_v3 main_v7 (broadcastInDim S16384x1024 ![0, 1] bcast_S16384x1_S16384x1024_0_1 : (⟨S16384x1, .f32⟩ : BufTy).Contents (Elt F) → (⟨S16384x1024, .f32⟩ : BufTy).Contents (Elt F)),
    unary main_v6 main_v8 (broadcastInDim S16384x1024 ![0, 1] bcast_S1x1024_S16384x1024_0_1 : (⟨S1x1024, .f32⟩ : BufTy).Contents (Elt F) → (⟨S16384x1024, .f32⟩ : BufTy).Contents (Elt F)),
    binary main_v7 main_v8 main_v9 (addf : (⟨S16384x1024, .f32⟩ : BufTy).Contents (Elt F) → (⟨S16384x1024, .f32⟩ : BufTy).Contents (Elt F) → (⟨S16384x1024, .f32⟩ : BufTy).Contents (Elt F)),
    nullary main_cst_1 (constant S_ .f32 0x40000000#32),
    unary main_cst_1 main_v10 (broadcastInDim S16384x64 ![] bcast_S_S16384x64 : (⟨S_, .f32⟩ : BufTy).Contents (Elt F) → (⟨S16384x64, .f32⟩ : BufTy).Contents (Elt F)),
    binary main_v10 main_v0 main_v11 (mulf : (⟨S16384x64, .f32⟩ : BufTy).Contents (Elt F) → (⟨S16384x64, .f32⟩ : BufTy).Contents (Elt F) → (⟨S16384x64, .f32⟩ : BufTy).Contents (Elt F)),
    unary main_arg1 main_v12 ((transpose S64x1024 [1, 0] · transposes_S1024x64_S64x1024_1_0) : (⟨S1024x64, .f32⟩ : BufTy).Contents (Elt F) → (⟨S64x1024, .f32⟩ : BufTy).Contents (Elt F)),
    binary main_v11 main_v12 main_v13 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
    binary main_v9 main_v13 main_v14 (subf : (⟨S16384x1024, .f32⟩ : BufTy).Contents (Elt F) → (⟨S16384x1024, .f32⟩ : BufTy).Contents (Elt F) → (⟨S16384x1024, .f32⟩ : BufTy).Contents (Elt F)) ]

/-- Stretch 1 of the host operations of the reference, in order. -/
abbrev ops1 : List (HloOp τ sig (Elt F)) :=
  [ TRef.nullary main_call0.v0 (iotaInDim S16384x1024 32 1),
    TRef.nullary main_call0.cst (constant S_ .f32 0x7F800000#32),
    TRef.nullary main_call0.c (constantI S_ 32 0#32),
    TRef.quaternary (.of main_v14 : TRef sig ⟨S16384x1024, .f32⟩) main_call0.v0 main_call0.cst main_call0.c main_call0.v1_0 (fun x y u v j => (Host.argReduce reducer_argmin_f32_i32 x y u v reducesTo_S16384x1024_S16384_d1 h_S_ j).1),
    TRef.quaternary (.of main_v14 : TRef sig ⟨S16384x1024, .f32⟩) main_call0.v0 main_call0.cst main_call0.c main_call0.v1_1 (fun x y u v j => (Host.argReduce reducer_argmin_f32_i32 x y u v reducesTo_S16384x1024_S16384_d1 h_S_ j).2) ]

/-- Stretch 2 of the host operations of the reference, in order. -/
abbrev ops2 : List (HloOp τ sig (Elt F)) :=
  [ reshape main_v15 main_v16 (rfl : (.i32 : EltTy) = .i32) shapeCasts_S16384_S16x32x32 ]

/-- Stretch 3 of the host operations of the reference, in order. -/
abbrev ops3 : List (HloOp τ sig (Elt F)) :=
  [ TRef.unary (.of main_v15 : TRef sig ⟨S16384, .i32⟩) main_call1.v0 (broadcastInDim S16384x1 ![0] bcast_S16384_S16384x1_0),
    TRef.nullary main_call1.v1 (iotaInDim S1x1024 32 1),
    TRef.unary main_call1.v0 main_call1.v2 (broadcastInDim S16384x1024 ![0, 1] bcast_S16384x1_S16384x1024_0_1),
    TRef.unary main_call1.v1 main_call1.v3 (broadcastInDim S16384x1024 ![0, 1] bcast_S1x1024_S16384x1024_0_1),
    TRef.binary main_call1.v2 main_call1.v3 main_call1.v4 (cmpi .eq),
    TRef.unary main_call1.v4 main_call1.v5 (uitofp .f32) ]

/-- Stretch 4 of the host operations of the reference, in order. -/
abbrev ops4 : List (HloOp τ sig (Elt F)) :=
  [ binary main_v17 main_arg1 main_v18 ((fun l r => Host.dotGeneral dot_S16384x1024_S1024x64_S16384x64_1_0_0_1_n_n none l r) : (⟨S16384x1024, .f32⟩ : BufTy).Contents (Elt F) → (⟨S1024x64, .f32⟩ : BufTy).Contents (Elt F) → (⟨S16384x64, .f32⟩ : BufTy).Contents (Elt F)),
    reshape main_v18 main_v19 (rfl : (.f32 : EltTy) = .f32) shapeCasts_S16384x64_S16x32x32x64,
    reshape main_v19 main_v20 (rfl : (.f32 : EltTy) = .f32) shapeCasts_S16x32x32x64_S16384x64,
    binary main_v20 main_v0 main_v21 (subf : (⟨S16384x64, .f32⟩ : BufTy).Contents (Elt F) → (⟨S16384x64, .f32⟩ : BufTy).Contents (Elt F) → (⟨S16384x64, .f32⟩ : BufTy).Contents (Elt F)),
    binary main_v21 main_v21 main_v22 (mulf : (⟨S16384x64, .f32⟩ : BufTy).Contents (Elt F) → (⟨S16384x64, .f32⟩ : BufTy).Contents (Elt F) → (⟨S16384x64, .f32⟩ : BufTy).Contents (Elt F)),
    nullary main_cst_2 (constant S_ .f32 0x00000000#32),
    binary main_v22 main_cst_2 main_v23 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_3 (constant S_ .f32 0x49800000#32),
    binary main_v23 main_cst_3 main_v24 (Host.divf : (⟨S_, .f32⟩ : BufTy).Contents (Elt F) → (⟨S_, .f32⟩ : BufTy).Contents (Elt F) → (⟨S_, .f32⟩ : BufTy).Contents (Elt F)),
    binary main_v19 main_arg0 main_v25 (subf : (⟨S16x32x32x64, .f32⟩ : BufTy).Contents (Elt F) → (⟨S16x32x32x64, .f32⟩ : BufTy).Contents (Elt F) → (⟨S16x32x32x64, .f32⟩ : BufTy).Contents (Elt F)),
    binary main_arg0 main_v25 main_v26 (addf : (⟨S16x32x32x64, .f32⟩ : BufTy).Contents (Elt F) → (⟨S16x32x32x64, .f32⟩ : BufTy).Contents (Elt F) → (⟨S16x32x32x64, .f32⟩ : BufTy).Contents (Elt F)),
    nullary main_cst_4 (constant S_ .f32 0x3E800000#32),
    binary main_v24 main_cst_4 main_v27 (mulf : (⟨S_, .f32⟩ : BufTy).Contents (Elt F) → (⟨S_, .f32⟩ : BufTy).Contents (Elt F) → (⟨S_, .f32⟩ : BufTy).Contents (Elt F)),
    unary main_v26 main_v28 ((transpose S16x64x32x32 [0, 3, 1, 2] · transposes_S16x32x32x64_S16x64x32x32_0_3_1_2) : (⟨S16x32x32x64, .f32⟩ : BufTy).Contents (Elt F) → (⟨S16x64x32x32, .f32⟩ : BufTy).Contents (Elt F)),
    unary main_v16 main_v29 (broadcastInDim S16x1x32x32 ![0, 2, 3] bcast_S16x32x32_S16x1x32x32_0_2_3 : (⟨S16x32x32, .i32⟩ : BufTy).Contents (Elt F) → (⟨S16x1x32x32, .i32⟩ : BufTy).Contents (Elt F)) ]

/-- The whole line of host operations. -/
abbrev ops : List (HloOp τ sig (Elt F)) := ops0 ++ (ops1 ++ (ops2 ++ (ops3 ++ ops4)))

/-- The reference's program is its five stretches of operations, one after the other. -/
theorem main_chain (c : Dev nD) : main (F := F) c = Pipeline.chain [seq ops0, seq ops1, seq ops2, seq ops3, seq ops4] := by
  rewrite [chain_seq_cons, Pipeline.chain_cons, chain_seq_cons, Pipeline.chain_cons, chain_seq_cons]
  chain_rfl

/-- The reference's program is the straight line of its operations. -/
theorem main_eq (c : Dev nD) : main (F := F) c = seq ops := by
  rw [main_chain]
  simp only [Pipeline.chain_cons, Pipeline.chain_nil, seq_append, bind_pure_unit]

end Cert.Proof.Ref

end
-- ==== Proof.RefRun.lean ====
/- The run of the reference program: what its three results hold, as functions of its two arguments. -/
module

public import proofs.«01_k».proof.Proof.RefOps

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The data as rows of 64 numbers. -/
def flat (z : FVec F S16x32x32x64 .f32) : FVec F S16384x64 .f32 :=
  shapeCast S16384x64 z shapeCasts_S16x32x32x64_S16384x64

/-- The reference's table of distances: row of the data by row of the codebook. -/
def dist (z : FVec F S16x32x32x64 .f32) (e : FVec F S1024x64 .f32) : FVec F S16384x1024 .f32 :=
  subf
    (addf
      (broadcastInDim S16384x1024 ![0, 1] bcast_S16384x1_S16384x1024_0_1
        (broadcastInDim S16384x1 ![0] bcast_S16384_S16384x1_0
          (Host.reduceAdd (mulf (flat z) (flat z)) (constant S_ .f32 0x00000000#32) reducesTo_S16384x64_S16384_d1 h_S_)))
      (broadcastInDim S16384x1024 ![0, 1] bcast_S1x1024_S16384x1024_0_1
        (broadcastInDim S1x1024 ![1] bcast_S1024_S1x1024_1
          (Host.reduceAdd (mulf e e) (constant S_ .f32 0x00000000#32) reducesTo_S1024x64_S1024_d1 h_S_))))
    (Host.dotGeneral dot_S16384x64_S64x1024_S16384x1024_1_0_0_1_n_n none
      (mulf (broadcastInDim S16384x64 ![] bcast_S_S16384x64 (constant S_ .f32 0x40000000#32)) (flat z))
      (transpose S64x1024 [1, 0] e transposes_S1024x64_S64x1024_1_0))

/-- The reference's index of the smallest entry of every row of a table. -/
def argm (d : FVec F S16384x1024 .f32) : IVec S16384 32 := fun j =>
  (Host.argReduce reducer_argmin_f32_i32 d (iotaInDim S16384x1024 32 1) (constant S_ .f32 0x7F800000#32)
    (constantI S_ 32 0#32) reducesTo_S16384x1024_S16384_d1 h_S_ j).2

/-- The reference's table with a one in every row at the row's index and zeros elsewhere. -/
def hot (i : IVec S16384 32) : FVec F S16384x1024 .f32 :=
  uitofp .f32 (cmpi .eq
    (broadcastInDim S16384x1024 ![0, 1] bcast_S16384x1_S16384x1024_0_1 (broadcastInDim S16384x1 ![0] bcast_S16384_S16384x1_0 i))
    (broadcastInDim S16384x1024 ![0, 1] bcast_S1x1024_S16384x1024_0_1 (iotaInDim S1x1024 32 1)))

/-- The reference's chosen rows of the codebook, in the shape of the data. -/
def quant (h : FVec F S16384x1024 .f32) (e : FVec F S1024x64 .f32) : FVec F S16x32x32x64 .f32 :=
  shapeCast S16x32x32x64 (Host.dotGeneral dot_S16384x1024_S1024x64_S16384x64_1_0_0_1_n_n none h e) shapeCasts_S16384x64_S16x32x32x64

/-- The reference's first result from the data and the chosen rows. -/
def outQ (z q : FVec F S16x32x32x64 .f32) : FVec F S16x64x32x32 .f32 :=
  transpose S16x64x32x32 [0, 3, 1, 2] (addf z (subf q z)) transposes_S16x32x32x64_S16x64x32x32_0_3_1_2

/-- The reference's second result from the indices. -/
def outI (i : IVec S16384 32) : IVec S16x1x32x32 32 :=
  broadcastInDim S16x1x32x32 ![0, 2, 3] bcast_S16x32x32_S16x1x32x32_0_2_3 (shapeCast S16x32x32 i shapeCasts_S16384_S16x32x32)

/-- The reference's third result, from the rows of the data and the chosen rows. -/
def outL (f : FVec F S16384x64 .f32) (q : FVec F S16x32x32x64 .f32) : FVec F S_ .f32 :=
  let d := subf (shapeCast S16384x64 q shapeCasts_S16x32x32x64_S16384x64) f
  mulf (Host.divf (Host.reduceAdd (mulf d d) (constant S_ .f32 0x00000000#32) reducesTo_S16384x64_S_d0_1 h_S_)
    (constant S_ .f32 0x49800000#32)) (constant S_ .f32 0x3E800000#32)

variable (V : Valuation τ sig (Elt F))

/-- After the first stretch the table of distances is in its buffer. -/
theorem v14_eq : after ops0 V (main_v14 : DevRef τ sig) = dist (V (main_arg0 : DevRef τ sig)) (V (main_arg1 : DevRef τ sig)) := by
  after_results
  rfl

/-- After the first stretch the rows of the data are in their buffer. -/
theorem v0_eq : after ops0 V (main_v0 : DevRef τ sig) = flat (V (main_arg0 : DevRef τ sig)) := by
  after_results
  rfl

/-- The first stretch leaves the data alone. -/
theorem arg0_0 : after ops0 V (main_arg0 : DevRef τ sig) = V (main_arg0 : DevRef τ sig) := by after_results
/-- The first stretch leaves the codebook alone. -/
theorem arg1_0 : after ops0 V (main_arg1 : DevRef τ sig) = V (main_arg1 : DevRef τ sig) := by after_results

/-- After the second stretch the indices are in their buffer. -/
theorem v15_eq : after ops1 V (main_v15 : DevRef τ sig) = argm (V (main_v14 : DevRef τ sig)) := by
  after_results
  rfl

/-- The second stretch leaves the rows of the data alone. -/
theorem v0_1 : after ops1 V (main_v0 : DevRef τ sig) = V (main_v0 : DevRef τ sig) := by after_results
/-- The second stretch leaves the data alone. -/
theorem arg0_1 : after ops1 V (main_arg0 : DevRef τ sig) = V (main_arg0 : DevRef τ sig) := by after_results
/-- The second stretch leaves the codebook alone. -/
theorem arg1_1 : after ops1 V (main_arg1 : DevRef τ sig) = V (main_arg1 : DevRef τ sig) := by after_results

/-- The third stretch reshapes the indices. -/
theorem v16_eq : after ops2 V (main_v16 : DevRef τ sig) = shapeCast S16x32x32 (V (main_v15 : DevRef τ sig) : IVec S16384 32) shapeCasts_S16384_S16x32x32 := by
  after_results
  rfl

/-- The third stretch leaves the indices alone. -/
theorem v15_2 : after ops2 V (main_v15 : DevRef τ sig) = V (main_v15 : DevRef τ sig) := by after_results
/-- The third stretch leaves the rows of the data alone. -/
theorem v0_2 : after ops2 V (main_v0 : DevRef τ sig) = V (main_v0 : DevRef τ sig) := by after_results
/-- The third stretch leaves the data alone. -/
theorem arg0_2 : after ops2 V (main_arg0 : DevRef τ sig) = V (main_arg0 : DevRef τ sig) := by after_results
/-- The third stretch leaves the codebook alone. -/
theorem arg1_2 : after ops2 V (main_arg1 : DevRef τ sig) = V (main_arg1 : DevRef τ sig) := by after_results

/-- After the fourth stretch the table of ones and zeros is in its buffer. -/
theorem v17_eq : after ops3 V (main_v17 : DevRef τ sig) = hot (V (main_v15 : DevRef τ sig)) := by
  after_results
  rfl

/-- The fourth stretch leaves the reshaped indices alone. -/
theorem v16_3 : after ops3 V (main_v16 : DevRef τ sig) = V (main_v16 : DevRef τ sig) := by after_results
/-- The fourth stretch leaves the rows of the data alone. -/
theorem v0_3 : after ops3 V (main_v0 : DevRef τ sig) = V (main_v0 : DevRef τ sig) := by after_results
/-- The fourth stretch leaves the data alone. -/
theorem arg0_3 : after ops3 V (main_arg0 : DevRef τ sig) = V (main_arg0 : DevRef τ sig) := by after_results
/-- The fourth stretch leaves the codebook alone. -/
theorem arg1_3 : after ops3 V (main_arg1 : DevRef τ sig) = V (main_arg1 : DevRef τ sig) := by after_results

/-- After the last stretch the first result is in its buffer. -/
theorem v28_eq : after ops4 V (main_v28 : DevRef τ sig) =
    outQ (V (main_arg0 : DevRef τ sig)) (quant (V (main_v17 : DevRef τ sig)) (V (main_arg1 : DevRef τ sig))) := by
  after_results
  rfl

/-- After the last stretch the second result is in its buffer. -/
theorem v29_eq : after ops4 V (main_v29 : DevRef τ sig) =
    broadcastInDim S16x1x32x32 ![0, 2, 3] bcast_S16x32x32_S16x1x32x32_0_2_3 (V (main_v16 : DevRef τ sig) : IVec S16x32x32 32) := by
  after_results

/-- After the last stretch the third result is in its buffer. -/
theorem v27_eq : after ops4 V (main_v27 : DevRef τ sig) =
    outL (V (main_v0 : DevRef τ sig)) (quant (V (main_v17 : DevRef τ sig)) (V (main_arg1 : DevRef τ sig))) := by
  after_results
  rfl

/-- The last stretch leaves the data alone. -/
theorem arg0_4 : after ops4 V (main_arg0 : DevRef τ sig) = V (main_arg0 : DevRef τ sig) := by after_results
/-- The last stretch leaves the codebook alone. -/
theorem arg1_4 : after ops4 V (main_arg1 : DevRef τ sig) = V (main_arg1 : DevRef τ sig) := by after_results

/-- Carrying out two lines one after the other is carrying out their concatenation. -/
theorem after_two (l₁ l₂ : List (HloOp τ sig (Elt F))) (V : Valuation τ sig (Elt F)) : after (l₁ ++ l₂) V = after l₂ (after l₁ V) := by
  induction l₁ generalizing V with
  | nil => rfl
  | cons op l ih => exact ih _

/-- The first result of the whole line. -/
theorem resQ : after ops V (main_v28 : DevRef τ sig) =
    outQ (V (main_arg0 : DevRef τ sig)) (quant (hot (argm (dist (V (main_arg0 : DevRef τ sig)) (V (main_arg1 : DevRef τ sig)))))
      (V (main_arg1 : DevRef τ sig))) := by
  unfold ops
  simp only [after_two]
  rw [v28_eq, v17_eq, v15_2, v15_eq, v14_eq, arg0_3, arg0_2, arg0_1, arg0_0, arg1_3, arg1_2, arg1_1, arg1_0]

/-- The second result of the whole line. -/
theorem resI : after ops V (main_v29 : DevRef τ sig) =
    outI (argm (dist (V (main_arg0 : DevRef τ sig)) (V (main_arg1 : DevRef τ sig)))) := by
  unfold ops
  simp only [after_two]
  rw [v29_eq, v16_3, v16_eq, v15_eq, v14_eq]
  rfl

/-- The third result of the whole line. -/
theorem resL : after ops V (main_v27 : DevRef τ sig) =
    outL (flat (V (main_arg0 : DevRef τ sig))) (quant (hot (argm (dist (V (main_arg0 : DevRef τ sig)) (V (main_arg1 : DevRef τ sig)))))
      (V (main_arg1 : DevRef τ sig))) := by
  unfold ops
  simp only [after_two]
  rw [v27_eq, v17_eq, v15_2, v15_eq, v14_eq, arg1_3, arg1_2, arg1_1, arg1_0, v0_3, v0_2, v0_1, v0_eq]

/-- The whole line leaves the data alone. -/
theorem arg0_all : after ops V (main_arg0 : DevRef τ sig) = V (main_arg0 : DevRef τ sig) := by
  unfold ops
  simp only [after_two]
  rw [arg0_4, arg0_3, arg0_2, arg0_1, arg0_0]

/-- The whole line leaves the codebook alone. -/
theorem arg1_all : after ops V (main_arg1 : DevRef τ sig) = V (main_arg1 : DevRef τ sig) := by
  unfold ops
  simp only [after_two]
  rw [arg1_4, arg1_3, arg1_2, arg1_1, arg1_0]

/-- Nothing is scoped on the reference's signature: no buffer. -/
theorem scopedRefs_eq : (Finset.univ.filter fun b : Ref sig .tc => b.isScoped) = ∅ := by decide
/-- Nothing is scoped on the reference's signature: no semaphore. -/
theorem scopedSems_eq : (Finset.univ.filter fun sm : SemLoc sig => sm.isScoped .tc) = ∅ := by decide

/-- A line all of whose parts touch the core's buffers only does so too. -/
theorem sub_append {l₁ l₂ : List (HloOp τ sig (Elt F))} (h₁ : l₁.Forall fun op => op.bufs ⊆ tcRefs τ sig)
    (h₂ : l₂.Forall fun op => op.bufs ⊆ tcRefs τ sig) : (l₁ ++ l₂).Forall fun op => op.bufs ⊆ tcRefs τ sig := by
  rw [List.forall_iff_forall_mem] at *
  intro op h
  exact (List.mem_append.mp h).elim (h₁ op) (h₂ op)

/-- Every operation of the reference touches the core's buffers only. -/
theorem ops_sub : (ops : List (HloOp τ sig (Elt F))).Forall fun op => op.bufs ⊆ tcRefs τ sig := by
  refine sub_append ?_ (sub_append ?_ (sub_append ?_ (sub_append ?_ ?_))) <;>
    simp [List.Forall, TRef.nullary, TRef.unary, TRef.binary, TRef.quaternary]

/-- Every operation of the reference determines what it writes. -/
theorem ops_fresh : ∀ op ∈ (ops : List (HloOp τ sig (Elt F))), op.fresh = ∅ := by
  intro op h
  simp only [ops, List.mem_append] at h
  rcases h with h | h | h | h | h <;> (repeat (cases h with | head => rfl | tail _ h => ?_)) <;> exact nomatch h

/-- The reference runs; its results are the three functions above of its arguments, which it leaves alone. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD,
        r.2.mem ((c.tc : Thread nD τ).loc main_v28) =
            outQ (m ((c.tc : Thread nD τ).loc main_arg0)) (quant (hot (argm (dist (m ((c.tc : Thread nD τ).loc main_arg0)) (m ((c.tc : Thread nD τ).loc main_arg1)))))
              (m ((c.tc : Thread nD τ).loc main_arg1)))
        ∧ r.2.mem ((c.tc : Thread nD τ).loc main_v29) =
            outI (argm (dist (m ((c.tc : Thread nD τ).loc main_arg0)) (m ((c.tc : Thread nD τ).loc main_arg1))))
        ∧ r.2.mem ((c.tc : Thread nD τ).loc main_v27) =
            outL (flat (m ((c.tc : Thread nD τ).loc main_arg0))) (quant (hot (argm (dist (m ((c.tc : Thread nD τ).loc main_arg0)) (m ((c.tc : Thread nD τ).loc main_arg1)))))
              (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v28).trans (resQ _), (h c main_v29).trans (resI _), (h c main_v27).trans (resL _),
      (h c main_arg0).trans (arg0_all _), (h c main_arg1).trans (arg1_all _)⟩)
    (run_seq scopedRefs_eq scopedSems_eq defs main (fun _ => ops) main_eq (fun _ => ops_sub) m ρ (fun _ => ops_fresh))

end Cert.Proof.Ref

end
-- ==== Proof.Math.lean ====
/- The pure mathematics of the two programs: the first index of a smallest entry, the fold that finds it, the sum
   against a row of zeros and a single one, the square of a difference, and the programs' constants. -/
module

public import Idealize.ShloMosaic.PureOps
public import Idealize.ShloMosaic.PureOps.Ideal.Laws
public import Mathlib.Data.Finset.Fold
public import Mathlib.Data.EReal.Inv
public import Mathlib.Algebra.BigOperators.Ring.Finset
public import Mathlib.Tactic.NormNum
public import Mathlib.Tactic.Ring
public import Mathlib.Tactic.Linarith

@[expose] public section

noncomputable section

namespace Cert.Proof.Vq

open Idealize.ShloMosaic

/-! ## The first index of a smallest entry -/

/-- `k` is the first index at which `d` takes its smallest value. -/
def IsFirst {N : Nat} (d : Fin N → EReal) (k : Fin N) : Prop :=
  (∀ m, d k ≤ d m) ∧ ∀ m, m < k → d k < d m

/-- There is at most one such index. -/
theorem IsFirst.unique {N : Nat} {d : Fin N → EReal} {k l : Fin N} (hk : IsFirst d k) (hl : IsFirst d l) : k = l := by
  rcases lt_trichotomy k l with h | h | h
  · exact absurd (hk.1 l) (not_le.mpr (hl.2 k h))
  · exact h
  · exact absurd (hl.1 k) (not_le.mpr (hk.2 l h))

/-- There is one, when there is any index. -/
theorem exists_first {N : Nat} (hN : 0 < N) (d : Fin N → EReal) : ∃ k, IsFirst d k := by
  classical
  haveI : Nonempty (Fin N) := ⟨⟨0, hN⟩⟩
  obtain ⟨m, hm⟩ := Finite.exists_min d
  have hne : (Finset.univ.filter fun k => ∀ m, d k ≤ d m).Nonempty := ⟨m, by simpa using hm⟩
  refine ⟨(Finset.univ.filter fun k => ∀ m, d k ≤ d m).min' hne, ?_, ?_⟩
  · exact (Finset.mem_filter.mp (Finset.min'_mem _ hne)).2
  · intro l hl
    by_contra hc
    have hc := not_lt.mp hc
    have h1 := (Finset.mem_filter.mp (Finset.min'_mem _ hne)).2
    have : l ∈ Finset.univ.filter fun k => ∀ m, d k ≤ d m := by
      simp only [Finset.mem_filter, Finset.mem_univ, true_and]
      exact fun m => hc.trans (h1 m)
    exact absurd (Finset.min'_le _ l this) (not_le.mpr hl)

/-- The first index of a smallest entry. -/
def first (d : Fin 1024 → EReal) : Fin 1024 := (exists_first (by norm_num) d).choose

/-- It is what its name says. -/
theorem first_spec (d : Fin 1024 → EReal) : IsFirst d (first d) := (exists_first (by norm_num) d).choose_spec

/-! ## The two folds of the kernel -/

/-- The fold of the minimum from the top is the smallest entry. -/
theorem fold_min {N : Nat} {d : Fin N → EReal} {k : Fin N} (hk : IsFirst d k) :
    Finset.fold min ⊤ d Finset.univ = d k := by
  apply le_antisymm
  · exact (Finset.fold_min_le _).mpr (.inr ⟨k, Finset.mem_univ _, le_rfl⟩)
  · exact (Finset.le_fold_min _).mpr ⟨le_top, fun m _ => hk.1 m⟩

/-- The fold of the minimum over the indices of the smallest entries, a large number at the others, is the first index. -/
theorem fold_index {N : Nat} {d : Fin N → EReal} {k : Fin N} (hk : IsFirst d k) (B : EReal) (hB : ((k.val : ℝ) : EReal) ≤ B) :
    Finset.fold min ⊤ (fun x => if d x = d k then ((x.val : ℝ) : EReal) else B) Finset.univ = ((k.val : ℝ) : EReal) := by
  apply le_antisymm
  · exact (Finset.fold_min_le _).mpr (.inr ⟨k, Finset.mem_univ _, by rw [if_pos rfl]⟩)
  · refine (Finset.le_fold_min _).mpr ⟨le_top, fun m _ => ?_⟩
    split
    · next h =>
      rw [EReal.coe_le_coe_iff, Nat.cast_le]
      by_contra hc
      exact absurd h (ne_of_gt (hk.2 m (Fin.lt_def.mpr (Nat.lt_of_not_le hc))))
    · exact hB

/-- A small natural number converts to its word. -/
theorem fptosi_nat (n : Nat) (hn : n < 1024) : Ideal.fptosi 32 ((n : ℝ) : EReal) = BitVec.ofNat 32 n := by
  have h : Ideal.fptosi 32 ((n : ℝ) : EReal) = BitVec.ofInt 32 (n : Int) := by
    simp only [Ideal.fptosi]
    congr 1
    show max _ (min _ (if (0 : ℝ) ≤ (n : ℝ) then ⌊(n : ℝ)⌋ else ⌈(n : ℝ)⌉)) = _
    rw [if_pos (Nat.cast_nonneg n), Int.floor_natCast]
    norm_num
    omega
  rw [h, BitVec.ofInt_natCast]

/-! ## The fold of the reference -/

/-- The order in which the reference compares pairs of a value and an index. -/
def key (p : EReal × BitVec 32) : EReal ×ₗ ℤ := toLex (p.1, p.2.toInt)

/-- A fold that keeps the smaller of two pairs ends at one of the pairs, no pair being smaller. -/
theorem foldl_key (f : EReal × BitVec 32 → EReal × BitVec 32 → EReal × BitVec 32)
    (hf : ∀ a b, f a b = if key a < key b then a else b) (L : List (EReal × BitVec 32)) :
    ∀ a, (L.foldl f a = a ∨ L.foldl f a ∈ L) ∧ key (L.foldl f a) ≤ key a ∧ ∀ p ∈ L, key (L.foldl f a) ≤ key p := by
  induction L with
  | nil => intro a; simp
  | cons b L ih =>
    intro a
    obtain ⟨h1, h2, h3⟩ := ih (f a b)
    rw [List.foldl_cons]
    have hab : (f a b = a ∨ f a b = b) ∧ key (f a b) ≤ key a ∧ key (f a b) ≤ key b := by
      rw [hf]
      split
      · next h => exact ⟨.inl rfl, le_rfl, h.le⟩
      · next h => exact ⟨.inr rfl, not_lt.mp h, le_rfl⟩
    refine ⟨?_, h2.trans hab.2.1, ?_⟩
    · rcases h1 with h1 | h1
      · rw [h1]
        rcases hab.1 with h | h
        · exact .inl h
        · exact .inr (by rw [h]; exact List.mem_cons_self)
      · exact .inr (List.mem_cons_of_mem _ h1)
    · intro p hp
      rcases List.mem_cons.mp hp with rfl | hp
      · exact h2.trans hab.2.2
      · exact h3 p hp

/-- The word of a small natural number, read signed, is the number. -/
theorem toInt_small (n : Nat) (hn : n < 1024) : (BitVec.ofNat 32 n).toInt = n := by
  rw [BitVec.toInt_ofNat', Int.bmod_def]
  omega

/-- Words of small natural numbers are equal only when the numbers are. -/
theorem ofNat_inj {a b : Nat} (ha : a < 1024) (hb : b < 1024) (h : BitVec.ofNat 32 a = BitVec.ofNat 32 b) : a = b := by
  have := congrArg BitVec.toInt h
  rw [toInt_small a ha, toInt_small b hb] at this
  exact_mod_cast this

/-- Such a fold over the pairs of a table's entries and their indices, from the top and the index zero, ends at the
    first index of a smallest entry. -/
theorem foldl_first (f : EReal × BitVec 32 → EReal × BitVec 32 → EReal × BitVec 32)
    (hf : ∀ a b, f a b = if key a < key b then a else b) (L : List (EReal × BitVec 32)) (d : Fin 1024 → EReal)
    (hL : ∀ p, p ∈ L ↔ ∃ n, p = (d n, BitVec.ofNat 32 n.val)) :
    (L.foldl f (⊤, 0#32)).2 = BitVec.ofNat 32 (first d).val := by
  obtain ⟨h1, h2, h3⟩ := foldl_key f hf L (⊤, 0#32)
  have hmem : ∃ n, L.foldl f (⊤, 0#32) = (d n, BitVec.ofNat 32 n.val) := by
    rcases h1 with h1 | h1
    · refine ⟨0, ?_⟩
      have h0 := h3 (d 0, BitVec.ofNat 32 0) ((hL _).mpr ⟨0, rfl⟩)
      rw [h1] at h0 ⊢
      have : (⊤ : EReal) ≤ d 0 := by
        rcases (Prod.Lex.le_iff.mp h0) with h | h
        · exact h.le
        · exact h.1.le
      rw [top_le_iff.mp this]
      rfl
    · exact (hL _).mp h1
  obtain ⟨n, hn⟩ := hmem
  rw [hn] at h3 ⊢
  have hle : ∀ m, d n < d m ∨ d n = d m ∧ n ≤ m := by
    intro m
    have h := h3 (d m, BitVec.ofNat 32 m.val) ((hL _).mpr ⟨m, rfl⟩)
    rcases (Prod.Lex.le_iff.mp h) with h | h
    · exact .inl h
    · refine .inr ⟨h.1, ?_⟩
      have h' : (BitVec.ofNat 32 n.val).toInt ≤ (BitVec.ofNat 32 m.val).toInt := h.2
      rw [toInt_small _ n.isLt, toInt_small _ m.isLt] at h'
      exact Fin.le_def.mpr (by exact_mod_cast h')
  have hfirst : IsFirst d n := by
    refine ⟨fun m => ?_, fun m hm => ?_⟩
    · rcases hle m with h | h
      · exact h.le
      · exact h.1.le
    · rcases hle m with h | h
      · exact h
      · exact absurd h.2 (not_le.mpr hm)
  rw [hfirst.unique (first_spec d)]

/-! ## A row with a single one -/

/-- Two words of small numbers compare equal exactly when the numbers are equal. -/
theorem cmp_word (x n : Fin 1024) :
    IntOp.cmpi .eq (BitVec.ofNat 32 x.val) (BitVec.ofNat 32 n.val) = if x = n then 1#1 else 0#1 := by
  by_cases h : x = n
  · subst h
    simp [IntOp.cmpi]
  · rw [if_neg h]
    have : BitVec.ofNat 32 x.val ≠ BitVec.ofNat 32 n.val := fun e => h (Fin.ext (ofNat_inj x.isLt n.isLt e))
    show BitVec.ofBool (BitVec.ofNat 32 x.val == BitVec.ofNat 32 n.val) = 0#1
    rw [beq_eq_false_iff_ne.mpr this]; rfl

/-- The kernel's entry of its table of ones and zeros. -/
theorem hot_signed (x n : Fin 1024) :
    FloatOps.sitofp (F := Ideal) .f32 (BitVec.setWidth 32 (IntOp.cmpi .eq (BitVec.ofNat 32 x.val) (BitVec.ofNat 32 n.val)))
      = if x = n then 1 else 0 := by
  rw [cmp_word]
  split
  · have h : (BitVec.setWidth 32 1#1).toInt = 1 := by decide
    show (((BitVec.setWidth 32 1#1).toInt : ℝ) : EReal) = 1
    rw [h]; simp
  · have h : (BitVec.setWidth 32 0#1).toInt = 0 := by decide
    show (((BitVec.setWidth 32 0#1).toInt : ℝ) : EReal) = 0
    rw [h]; simp

/-- The reference's entry of its table of ones and zeros. -/
theorem hot_unsigned (x n : Fin 1024) :
    FloatOps.uitofp (F := Ideal) .f32 (IntOp.cmpi .eq (BitVec.ofNat 32 x.val) (BitVec.ofNat 32 n.val))
      = if n = x then 1 else 0 := by
  rw [cmp_word]
  by_cases hx : n = x
  · rw [if_pos hx, if_pos hx.symm]
    show ((((1#1 : BitVec 1).toNat : ℝ)) : EReal) = 1
    simp
  · rw [if_neg hx, if_neg fun e => hx e.symm]
    show ((((0#1 : BitVec 1).toNat : ℝ)) : EReal) = 0
    simp

/-- A sum against the row that has a one at `k` and zeros elsewhere is the entry at `k`, on the left -/
theorem sum_hot_right {N : Nat} (x : Fin N → EReal) (k : Fin N) (c : Fin N → EReal) (hc : ∀ n, c n = if n = k then 1 else 0) :
    ∑ n, x n * c n = x k := by
  rw [Finset.sum_eq_single k]
  · rw [hc, if_pos rfl, mul_one]
  · intro n _ hn; rw [hc, if_neg hn, mul_zero]
  · intro h; exact absurd (Finset.mem_univ k) h

/-- and on the right. -/
theorem sum_hot_left {N : Nat} (x : Fin N → EReal) (k : Fin N) (c : Fin N → EReal) (hc : ∀ n, c n = if n = k then 1 else 0) :
    ∑ n, c n * x n = x k := by
  rw [← sum_hot_right x k c hc]
  exact Finset.sum_congr rfl fun n _ => mul_comm _ _

/-! ## Finite numbers -/

/-- Neither infinity. -/
def Fin' (x : EReal) : Prop := ∃ r : ℝ, x = (r : EReal)

/-- A number whose absolute value is below the top is finite. -/
theorem fin_of_abs {x : EReal} (h : max x (-x) < ⊤) : Fin' x := by
  induction x with
  | bot => simp at h
  | top => simp at h
  | coe r => exact ⟨r, rfl⟩

/-- The sum of real numbers, read among the extended ones. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For finite rows the distance as both programs compute it is the sum of the squares of the differences. -/
theorem sq_dist {N : Nat} (f e : Fin N → EReal) (hf : ∀ k, Fin' (f k)) (he : ∀ k, Fin' (e k)) :
    (∑ k, f k * f k) + (∑ k, e k * e k) - 2 * ∑ k, f k * e k = ∑ k, (e k - f k) * (e k - f k) := by
  choose F hF using hf
  choose E hE using he
  have h2 : (2 : EReal) = ((2 : ℝ) : EReal) := rfl
  simp only [hF, hE, h2, ← EReal.coe_mul, ← EReal.coe_sub, ← coe_sum, ← EReal.coe_add]
  congr 1
  rw [Finset.mul_sum, ← Finset.sum_add_distrib, ← Finset.sum_sub_distrib]
  exact Finset.sum_congr rfl fun k _ => by ring

/-- Doubling one factor of every product doubles the sum of the products. -/
theorem sum_two {N : Nat} (f e : Fin N → EReal) (hf : ∀ k, Fin' (f k)) (he : ∀ k, Fin' (e k)) :
    ∑ k, (2 * f k) * e k = 2 * ∑ k, f k * e k := by
  choose F hF using hf
  choose E hE using he
  have h2 : (2 : EReal) = ((2 : ℝ) : EReal) := rfl
  simp only [hF, hE, h2, ← EReal.coe_mul, ← coe_sum]
  congr 1
  rw [Finset.mul_sum]
  exact Finset.sum_congr rfl fun k _ => by ring

/-- A finite number cancels: what is added to the difference from it is the other number. -/
theorem add_sub_self {z : EReal} (hz : Fin' z) (q : EReal) : z + (q - z) = q := by
  obtain ⟨r, rfl⟩ := hz
  rw [add_comm, EReal.sub_add_cancel]

/-- Dividing by the number of entries and then taking a quarter is one product. -/
theorem mean_quarter (x : EReal) : Ideal.div x ((1048576 : ℝ) : EReal) * ((1 / 4 : ℝ) : EReal) = x * ((1 / 4194304 : ℝ) : EReal) := by
  have h0 : ((1048576 : ℝ) : EReal) ≠ 0 := by
    rw [← EReal.coe_zero, Ne, EReal.coe_eq_coe_iff]; norm_num
  rw [Ideal.div, if_neg h0, mul_assoc, ← EReal.coe_inv, ← EReal.coe_mul]
  norm_num

/-! ## The programs' constants -/

/-- The start of every minimum is the top. -/
theorem c_top : Ideal.ofBits .f32 0x7F800000#32 = ⊤ := by simp [Ideal.ofBits, Ideal.ieee]

/-- The factor two. -/
theorem c_two : Ideal.ofBits .f32 0x40000000#32 = 2 := by
  have : Ideal.ofBits .f32 0x40000000#32 = ((2 : ℝ) : EReal) := by
    simp [Ideal.ofBits, Ideal.ieee]
    rw [← EReal.coe_mul]
    norm_num
  exact this

/-- The number that stands for no index. -/
theorem c_big : Ideal.ofBits .f32 0x4E800000#32 = ((1073741824 : ℝ) : EReal) := by
  simp [Ideal.ofBits, Ideal.ieee]
  rw [← EReal.coe_pow, ← EReal.coe_mul]
  norm_num

/-- The number of entries. -/
theorem c_count : Ideal.ofBits .f32 0x49800000#32 = ((1048576 : ℝ) : EReal) := by
  simp [Ideal.ofBits, Ideal.ieee]
  rw [← EReal.coe_mul]
  norm_num

/-- A quarter. -/
theorem c_quarter : Ideal.ofBits .f32 0x3E800000#32 = ((1 / 4 : ℝ) : EReal) := by
  simp [Ideal.ofBits, Ideal.ieee]
  rw [← EReal.coe_mul]
  norm_num

/-- A quarter over the number of entries. -/
theorem c_scale : Ideal.ofBits .f32 0x34800000#32 = ((1 / 4194304 : ℝ) : EReal) := by
  simp [Ideal.ofBits, Ideal.ieee]
  rw [← EReal.coe_mul]
  norm_num

/-- The squared distance between row `r` of the data and row `n` of the codebook, as both programs expand it. -/
def vdist (f : Fin 16384 → Fin 64 → EReal) (e : Fin 1024 → Fin 64 → EReal) (r : Fin 16384) (n : Fin 1024) : EReal :=
  (∑ k, f r k * f r k) + (∑ k, e n k * e n k) - 2 * ∑ k, f r k * e n k

/-- The number of the row of the codebook nearest to row `r` of the data, the first of several. -/
def pick (f : Fin 16384 → Fin 64 → EReal) (e : Fin 1024 → Fin 64 → EReal) (r : Fin 16384) : Fin 1024 := first (vdist f e r)

end Cert.Proof.Vq

end
-- ==== Proof.Finite.lean ====
/- The precondition: every number of both arguments is finite. -/
module

public import proofs.«01_k».proof.Pre_finite
public import proofs.«01_k».proof.Proof.Gen.Pre_finite
public import proofs.«01_k».proof.Proof.Math
public import Idealize.ShloMosaic.Lib.Pointwise
public import Idealize.ShloMosaic.Lib.ReduceAll

@[expose] public section

set_option maxRecDepth 16384

noncomputable section

namespace Cert.Proof.Finite

open Cert.Proof.Vq Cert.Pre_finite
open Idealize.ShloMosaic Idealize.SL.Sem

/-- The shape of one number has one index. -/
instance : Subsingleton S_.Idx := ⟨fun a b => funext fun k => k.elim0⟩

/-- A comparison of a magnitude with infinity that says yes means a finite number. -/
theorem fin_of_cmp (x : EReal) (h : FloatOps.cmpf (F := Ideal) (φ := .f32) .olt (max x (-x)) (Ideal.ofBits .f32 0x7F800000#32) = 1#1) : Fin' x := by
  rw [c_top] at h
  refine fin_of_abs (of_decide_eq_true ?_)
  have e : BitVec.ofBool (decide (max x (-x) < ⊤)) = 1#1 := h
  revert e
  cases decide (max x (-x) < ⊤) <;> decide

/-- The precondition makes every number of both arguments finite. -/
theorem finite_of_pre [Cert.Pre_finite.Facts] (z : FVec Ideal S16x32x32x64 .f32) (e : FVec Ideal S1024x64 .f32)
    (h : Cert.Pre_finite.fn z e = fun _ => 1#1) : (∀ i, Fin' (z i)) ∧ ∀ i, Fin' (e i) := by
  have h1 := congrFun h (fun a => a.elim0)
  unfold Cert.Pre_finite.fn at h1
  obtain ⟨hz, he⟩ := IntOp.andi_eq_one.1 h1
  exact ⟨fun i => fin_of_cmp (z i) (Host.reduce_andi_all _ _ _ _ _ hz i), fun i => fin_of_cmp (e i) (Host.reduce_andi_all _ _ _ _ _ he i)⟩

end Cert.Proof.Finite

end
-- ==== Proof.Block.lean ====
/- What the kernel's body computes from its blocks, read at an index. -/
module

public import proofs.«01_k».proof.Proof.Gen.KernelIdeal.Skeleton
public import proofs.«01_k».proof.Proof.Math
public import Idealize.ShloMosaic.Lib.Pointwise
public import Idealize.ShloMosaic.Lib.WordCmp

@[expose] public section

set_option maxRecDepth 16384

noncomputable section

namespace Cert.Proof.Block

open Cert.Proof.Vq Cert.KernelIdeal Cert.KernelIdeal.Gen
open Idealize.ShloMosaic Idealize.ShloMosaic.TcCoe Idealize.SL.Sem

/-- The distance of row `r` of a block to row `n` of the codebook, as the body computes it from the block, the transposed
    codebook and the row of the squares. -/
def bdist (f : Vec Ideal S2048x64 .f32) (et : Vec Ideal S64x1024 .f32) (e2 : Vec Ideal S1x1024 .f32) (r : Fin 2048) (n : Fin 1024) : EReal :=
  (∑ k : Fin 64, f (ix2 r k) * f (ix2 r k)) + e2 (ix2 0 n) - 2 * ∑ k : Fin 64, f (ix2 r k) * et (ix2 k n)

/-- The row of the squares holds the sum of the squares of every row of the codebook. -/
theorem e2_at (x : Vec Ideal S1024x64 .f32) (n : Fin 1024) :
    k0_pay6 (F := Ideal) x (ix2 0 n) = ∑ k : Fin 64, x (ix2 n k) * x (ix2 n k) := by
  pointwise [k0_pay6]

variable (f : Vec Ideal S2048x64 .f32) (et : Vec Ideal S64x1024 .f32) (e2 : Vec Ideal S1x1024 .f32) (io : Vec Ideal S1x1024 .f32)

/-- The body's table of distances. -/
theorem dist_at (r : Fin 2048) (n : Fin 1024) : k0_pay9 (F := Ideal) f et e2 (ix2 r n) = bdist f et e2 r n := by
  pointwise [k0_pay9, k0_pay8]
  rw [c_two]
  rfl

/-- The body's smallest distance of every row. -/
theorem dmin_at (r : Fin 2048) : k0_pay10 (F := Ideal) f et e2 (ix2 r 0) = bdist f et e2 r (first (bdist f et e2 r)) := by
  pointwise [k0_pay10]
  simp only [dist_at, c_top]
  exact fold_min (first_spec _)

/-- The body's index of every row, when the row of numbers it reads holds each index. -/
theorem idx_at (hio : ∀ n : Fin 1024, io (ix2 0 n) = ((n.val : ℝ) : EReal)) (r : Fin 2048) :
    k0_pay11 (F := Ideal) f et e2 io (ix1 r) = BitVec.ofNat 32 (first (bdist f et e2 r)).val := by
  pointwise [k0_pay11]
  simp only [dist_at, dmin_at, c_top, c_big, hio]
  rw [fold_index (first_spec _) _ ?_]
  · exact fptosi_nat _ (first _).isLt
  · rw [EReal.coe_le_coe_iff]
    have h : (first (bdist f et e2 r)).val ≤ 1024 := (first _).isLt.le
    have h' : ((first (bdist f et e2 r)).val : ℝ) ≤ 1024 := by exact_mod_cast h
    linarith

/-- The body's product with the table of ones and zeros picks the codebook's entry at the index. -/
theorem q_at (i : IVec S2048 32) (k : Fin 64) (r : Fin 2048) (n : Fin 1024) (hi : i (ix1 r) = BitVec.ofNat 32 n.val) :
    k0_pay2 (F := Ideal) et i (ix2 k r) = et (ix2 k n) := by
  pointwise [k0_pay2]
  rw [hi]
  refine sum_hot_right (fun x => et (ix2 k x)) n _ fun x => hot_signed x n

/-- The first half of the product's block. -/
theorem q0_at (i : IVec S2048 32) (k : Fin 64) (r : Fin 1024) (n : Fin 1024)
    (hi : i (ix1 ⟨r.val, by omega⟩) = BitVec.ofNat 32 n.val) : k0_pay3 (F := Ideal) et i (ix3 0 k r) = et (ix2 k n) := by
  pointwise [k0_pay3]
  exact q_at et i k _ n hi

/-- The second half of the product's block. -/
theorem q1_at (i : IVec S2048 32) (k : Fin 64) (r : Fin 1024) (n : Fin 1024)
    (hi : i (ix1 ⟨1024 + r.val, by omega⟩) = BitVec.ofNat 32 n.val) : k0_pay4 (F := Ideal) et i (ix3 0 k r) = et (ix2 k n) := by
  pointwise [k0_pay4]
  exact q_at et i k _ n hi

/-- The first half of the indices' block. -/
theorem i0_at (hio : ∀ n : Fin 1024, io (ix2 0 n) = ((n.val : ℝ) : EReal)) (r : Fin 1024) :
    k0_pay12 (F := Ideal) f et e2 io (ix3 0 0 r) = BitVec.ofNat 32 (first (bdist f et e2 ⟨r.val, by omega⟩)).val := by
  pointwise [k0_pay12]
  exact idx_at f et e2 io hio _

/-- The second half of the indices' block. -/
theorem i1_at (hio : ∀ n : Fin 1024, io (ix2 0 n) = ((n.val : ℝ) : EReal)) (r : Fin 1024) :
    k0_pay1 (k0_pay13 (F := Ideal) f et e2 io) (ix3 0 0 r) = BitVec.ofNat 32 (first (bdist f et e2 ⟨1024 + r.val, by omega⟩)).val := by
  pointwise [k0_pay13, k0_pay1]
  exact idx_at f et e2 io hio _

/-- One point adds to the accumulator the sum of a column. -/
theorem acc_col (d : FVec Ideal S2048x1 .f32) (a : Vec Ideal S1x1 .f32) :
    k0_pay5 (F := Ideal) d a (ix2 0 0) = a (ix2 0 0) + ∑ r : Fin 2048, d (ix2 r 0) := by
  pointwise [k0_pay5]
  simp only [Fin.sum_univ_one]

/-- That column being the smallest distances, the sum is that of the rows' smallest distances. -/
theorem acc_at (a : Vec Ideal S1x1 .f32) :
    k0_pay5 (F := Ideal) (k0_pay10 (F := Ideal) f et e2) a (ix2 0 0) = a (ix2 0 0) + ∑ r : Fin 2048, bdist f et e2 r (first (bdist f et e2 r)) := by
  rw [acc_col]
  exact congrArg (a (ix2 0 0) + ·) (Finset.sum_congr rfl fun r _ => dmin_at f et e2 r)

/-- The accumulator starts at zero. -/
theorem zero_at : k0_pay7 (F := Ideal) (ix2 0 0) = 0 := by
  pointwise [k0_pay7]

/-- The body reads the transposed codebook as it is. -/
theorem et_at (k : Fin 64) (n : Fin 1024) : k0_pay8 (F := Ideal) et (ix2 k n) = et (ix2 k n) := by
  pointwise [k0_pay8]

end Cert.Proof.Block

end
-- ==== Proof.Entry.lean ====
/- What the kernel's blocks hold at every point: the arrays the region starts with, read through the blocks. -/
module

public import proofs.«01_k».proof.Proof.Gen.KernelIdeal.Frame
public import proofs.«01_k».proof.Proof.Block
public import Idealize.ShloMosaic.Lib.Pipeline.ValueKit

@[expose] public section

set_option maxRecDepth 16384

noncomputable section

namespace Cert.Proof.Entry

open Cert.Proof.Vq Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The data, as the kernel's memory holds it at the start. -/
abbrev zarr : FVec Ideal S16x32x32x64 .f32 := m ((c : Thread nD τ).loc main_arg0)
/-- The codebook, as the kernel's memory holds it at the start. -/
abbrev earr : FVec Ideal S1024x64 .f32 := m ((c : Thread nD τ).loc main_arg1)

/-- The data's rows. -/
def rows (r : Fin 16384) (k : Fin 64) : EReal :=
  zarr m c (ix4 ⟨r.val / 1024, by omega⟩ ⟨r.val / 32 % 32, by omega⟩ ⟨r.val % 32, by omega⟩ k)
/-- The codebook's rows. -/
def codes (n : Fin 1024) (k : Fin 64) : EReal := earr m c (ix2 n k)

/-- Where every window's block sits at every point. -/
theorem idx : ∀ t : Fin cfg0.N, win0_0.index t = ![t.val, 0] ∧ win0_1.index t = ![0, 0] ∧ win0_2.index t = ![0, 0] ∧ win0_3.index t = ![0, 0]
    ∧ win0_4.index t = ![t.val, 0, 0] ∧ win0_5.index t = ![t.val, 0, 0] ∧ win0_6.index t = ![0, 0] :=
  (by decide +kernel : ∀ t : Fin grid0.N, _)

/-- The region starts with the data's rows in its first array. -/
theorem V_v0 : V m c main_v0 = shapeCast S16384x64 (zarr m c) shapeCasts_S16x32x32x64_S16384x64 := by
  show StableHlo.after hostOps0 _ (Proc.devRef .tc main_v0) = _
  after_results
  rfl

/-- The region starts with the transposed codebook in its second array. -/
theorem V_v1 : V m c main_v1 = transpose S64x1024 [1, 0] (earr m c) transposes_S1024x64_S64x1024_1_0 := by
  show StableHlo.after hostOps0 _ (Proc.devRef .tc main_v1) = _
  after_results

/-- The region starts with the columns' numbers in its fourth array. -/
theorem V_v3 : V m c main_v3 = broadcastInDim S1x1024 ![1] bcast_S1024_S1x1024_1 (sitofp (F := Ideal) .f32 (iotaInDim S1024 32 0)) := by
  show StableHlo.after hostOps0 _ (Proc.devRef .tc main_v3) = _
  after_results

/-- A row of a point's block of data is a row of the data. -/
theorem f_at (t : Fin cfg0.N) (r : Fin 2048) (k : Fin 64) (h : 2048 * t.val + r.val < 16384) :
    iblk m c 0 t (ix2 r k) = rows m c ⟨2048 * t.val + r.val, h⟩ k := by
  have e : iblk m c 0 t (ix2 r k) = V m c main_v0 (((cfg0.win 0).blk t).view.emb (ix2 r k)) := rfl
  rw [e, V_v0]
  unfold rows
  pointwise
  blk_ext [idx t]

/-- Every point's block of the transposed codebook is the codebook read across. -/
theorem et_at (t : Fin cfg0.N) (k : Fin 64) (n : Fin 1024) : iblk m c 1 t (ix2 k n) = codes m c n k := by
  have e : iblk m c 1 t (ix2 k n) = V m c main_v1 (((cfg0.win 1).blk t).view.emb (ix2 k n)) := rfl
  rw [e, V_v1]
  unfold codes
  pointwise
  blk_ext [idx t]

/-- Every point's block of the codebook is the codebook. -/
theorem e_at (t : Fin cfg0.N) (n : Fin 1024) (k : Fin 64) : iblk m c 2 t (ix2 n k) = codes m c n k := by
  unfold codes earr
  blk_ext [iblk, V, idx t]

/-- Every point's block of numbers holds every column's number. -/
theorem io_at (t : Fin cfg0.N) (n : Fin 1024) : iblk m c 3 t (ix2 0 n) = ((n.val : ℝ) : EReal) := by
  have e : iblk m c 3 t (ix2 0 n) = V m c main_v3 (((cfg0.win 3).blk t).view.emb (ix2 0 n)) := rfl
  rw [e, V_v3]
  pointwise
  blk_simp [idx t]
  show ((((BitVec.ofNat 32 n.val).toInt : ℤ) : ℝ) : EReal) = _
  rw [toInt_small n.val n.isLt]
  simp

end Cert.Proof.Entry

end
-- ==== Proof.Outs.lean ====
/- What the kernel's body leaves in its buffers at every point. -/
module

public import proofs.«01_k».proof.Proof.Entry
public import Idealize.ShloMosaic.Lib.Pipeline.ReadBack

@[expose] public section

set_option maxRecDepth 16384

noncomputable section

namespace Cert.Proof.Outs

open Cert.Proof.Vq Cert.Proof.Block Cert.Proof.Entry Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- At the first point the scratch receives the squares. -/
theorem scratch_A (t : Fin cfg0.N) (h : t.val % 8 = 0) : (outsAt0 m c t.val t.isLt).2.2.2 = k0_pay6 (F := Ideal) (iblk m c 2 t) := by
  rw [outsAt0_A m c t h]
  frame_out

/-- At every later point the scratch is kept. -/
theorem scratch_B (t : Fin cfg0.N) (h : ¬ t.val % 8 = 0) :
    (outsAt0 m c t.val t.isLt).2.2.2 = (outsAt0 m c (t.val - 1) (Nat.lt_of_le_of_lt (Nat.sub_le _ _) t.isLt)).2.2.2 := by
  rw [outsAt0_B m c t h]
  rfl

/-- At every point the scratch holds the squares of the codebook's rows. -/
theorem scratch_at (n : Nat) (hn : n < cfg0.N) (j : Fin 1024) :
    (outsAt0 m c n hn).2.2.2 (ix2 0 j) = ∑ k, codes m c j k * codes m c j k := by
  induction n with
  | zero =>
    rw [scratch_A m c ⟨0, hn⟩ rfl, e2_at]
    exact Finset.sum_congr rfl fun k _ => by rw [e_at]
  | succ n ih =>
    have hN : n + 1 < 8 := lt_of_lt_of_eq hn N_0
    rw [scratch_B m c ⟨n + 1, hn⟩ (by show ¬ (n + 1) % 8 = 0; omega)]
    exact ih _

/-- The body's distance at a point is the distance of that row of the data. -/
theorem bdist_at (t : Fin cfg0.N) (s : Vec Ideal S1x1024 .f32) (hs : ∀ j : Fin 1024, s (ix2 0 j) = ∑ k, codes m c j k * codes m c j k)
    (r : Fin 2048) (h : 2048 * t.val + r.val < 16384) :
    bdist (iblk m c 0 t) (iblk m c 1 t) s r = vdist (rows m c) (codes m c) ⟨2048 * t.val + r.val, h⟩ := by
  funext n
  unfold bdist vdist
  rw [hs]
  simp only [f_at m c t _ _ h, Entry.et_at]

section

variable (t : Fin cfg0.N) (s : Vec Ideal S1x1024 .f32) (hs : ∀ j : Fin 1024, s (ix2 0 j) = ∑ k, codes m c j k * codes m c j k)

include hs

/-- The first half of a point's stored columns holds the chosen rows of the codebook. -/
theorem q_lo (x : S1x64x1024.Idx) (r : Fin 16384) (k : Fin 64) (hr : r.val = 2048 * t.val + (x 2).val) (hk : k.val = (x 1).val) :
    k0_pay3 (F := Ideal) (k0_pay8 (F := Ideal) (iblk m c 1 t)) (k0_pay11 (F := Ideal) (iblk m c 0 t) (iblk m c 1 t) s (iblk m c 3 t)) x
      = codes m c (pick (rows m c) (codes m c) r) k := by
  obtain ⟨a, b, d, rfl⟩ : ∃ (a : Fin 1) (b : Fin 64) (d : Fin 1024), x = ix3 a b d := ⟨x 0, x 1, x 2, by blk_ext⟩
  obtain rfl : a = 0 := Subsingleton.elim _ _
  obtain rfl : k = b := Fin.ext hk
  have hr' : r.val = 2048 * t.val + d.val := hr
  have hl : 2048 * t.val + d.val < 16384 := by omega
  obtain rfl : r = ⟨2048 * t.val + d.val, hl⟩ := Fin.ext hr'
  rw [q0_at _ _ k d (pick (rows m c) (codes m c) ⟨2048 * t.val + d.val, hl⟩)
    (by rw [idx_at _ _ _ _ (io_at m c t), bdist_at m c t s hs ⟨d.val, by omega⟩ hl]; rfl), Block.et_at, Entry.et_at]

/-- The second half of a point's stored columns holds the chosen rows of the codebook. -/
theorem q_hi (x : S1x64x1024.Idx) (r : Fin 16384) (k : Fin 64) (hr : r.val = 2048 * t.val + (1024 + (x 2).val)) (hk : k.val = (x 1).val) :
    k0_pay4 (F := Ideal) (k0_pay8 (F := Ideal) (iblk m c 1 t)) (k0_pay11 (F := Ideal) (iblk m c 0 t) (iblk m c 1 t) s (iblk m c 3 t)) x
      = codes m c (pick (rows m c) (codes m c) r) k := by
  obtain ⟨a, b, d, rfl⟩ : ∃ (a : Fin 1) (b : Fin 64) (d : Fin 1024), x = ix3 a b d := ⟨x 0, x 1, x 2, by blk_ext⟩
  obtain rfl : a = 0 := Subsingleton.elim _ _
  obtain rfl : k = b := Fin.ext hk
  have hr' : r.val = 2048 * t.val + (1024 + d.val) := hr
  have hl : 2048 * t.val + (1024 + d.val) < 16384 := by omega
  obtain rfl : r = ⟨2048 * t.val + (1024 + d.val), hl⟩ := Fin.ext hr'
  rw [q1_at _ _ k d (pick (rows m c) (codes m c) ⟨2048 * t.val + (1024 + d.val), hl⟩)
    (by rw [idx_at _ _ _ _ (io_at m c t), bdist_at m c t s hs ⟨1024 + d.val, by omega⟩ hl]; rfl), Block.et_at, Entry.et_at]

/-- The first half of a point's stored indices holds the chosen rows' numbers. -/
theorem i_lo (x : S1x1x1024.Idx) (r : Fin 16384) (hr : r.val = 2048 * t.val + (x 2).val) :
    k0_pay12 (F := Ideal) (iblk m c 0 t) (iblk m c 1 t) s (iblk m c 3 t) x = BitVec.ofNat 32 (pick (rows m c) (codes m c) r).val := by
  obtain ⟨a, b, d, rfl⟩ : ∃ (a : Fin 1) (b : Fin 1) (d : Fin 1024), x = ix3 a b d := ⟨x 0, x 1, x 2, by blk_ext⟩
  obtain rfl : a = 0 := Subsingleton.elim _ _
  obtain rfl : b = 0 := Subsingleton.elim _ _
  have hr' : r.val = 2048 * t.val + d.val := hr
  have hl : 2048 * t.val + d.val < 16384 := by omega
  obtain rfl : r = ⟨2048 * t.val + d.val, hl⟩ := Fin.ext hr'
  rw [i0_at _ _ _ _ (io_at m c t), bdist_at m c t s hs ⟨d.val, by omega⟩ hl]
  rfl

/-- The second half of a point's stored indices holds the chosen rows' numbers. -/
theorem i_hi (x : S1x1x1024.Idx) (r : Fin 16384) (hr : r.val = 2048 * t.val + (1024 + (x 2).val)) :
    k0_pay1 (k0_pay13 (F := Ideal) (iblk m c 0 t) (iblk m c 1 t) s (iblk m c 3 t)) x
      = BitVec.ofNat 32 (pick (rows m c) (codes m c) r).val := by
  obtain ⟨a, b, d, rfl⟩ : ∃ (a : Fin 1) (b : Fin 1) (d : Fin 1024), x = ix3 a b d := ⟨x 0, x 1, x 2, by blk_ext⟩
  obtain rfl : a = 0 := Subsingleton.elim _ _
  obtain rfl : b = 0 := Subsingleton.elim _ _
  have hr' : r.val = 2048 * t.val + (1024 + d.val) := hr
  have hl : 2048 * t.val + (1024 + d.val) < 16384 := by omega
  obtain rfl : r = ⟨2048 * t.val + (1024 + d.val), hl⟩ := Fin.ext hr'
  rw [i1_at _ _ _ _ (io_at m c t), bdist_at m c t s hs ⟨1024 + d.val, by omega⟩ hl]
  rfl

/-- A point adds to the accumulator the smallest distances of its rows. -/
theorem acc_step (a : Vec Ideal S1x1 .f32) (ht : t.val < 8) :
    k0_pay5 (F := Ideal) (k0_pay10 (F := Ideal) (iblk m c 0 t) (iblk m c 1 t) s) a (ix2 0 0)
      = a (ix2 0 0) + ∑ r : Fin 2048, vdist (rows m c) (codes m c) ⟨2048 * t.val + r.val, by omega⟩
          (pick (rows m c) (codes m c) ⟨2048 * t.val + r.val, by omega⟩) := by
  rw [acc_at]
  refine congrArg (a (ix2 0 0) + ·) (Finset.sum_congr rfl fun r _ => ?_)
  rw [bdist_at m c t s hs r (by omega)]
  rfl

end

/-- What a point leaves of the first result: the chosen rows of the codebook. -/
theorem q_val (t : Fin cfg0.N) (y : S2x64x1024.Idx) (r : Fin 16384) (k : Fin 64) (hr : r.val = 2048 * t.val + 1024 * (y 0).val + (y 2).val)
    (hk : k.val = (y 1).val) : (outsAt0 m c t.val t.isLt).1 y = codes m c (pick (rows m c) (codes m c) r) k := by
  by_cases h : t.val % 8 = 0
  · have hs := scratch_at m c t.val t.isLt
    rw [scratch_A m c t h] at hs
    rw [outsAt0_A m c t h]
    frame_out
    canon_tiles x hx
    · exact q_hi m c t _ hs x r k (by omega) (by omega)
    · exact q_lo m c t _ hs x r k (by omega) (by omega)
  · have hs := scratch_at m c (t.val - 1) (Nat.lt_of_le_of_lt (Nat.sub_le _ _) t.isLt)
    rw [outsAt0_B m c t h]
    frame_out
    rw [read_unread_whole]
    canon_tiles x hx
    · exact q_hi m c t _ hs x r k (by omega) (by omega)
    · exact q_lo m c t _ hs x r k (by omega) (by omega)

/-- What a point leaves of the second result: the chosen rows' numbers. -/
theorem i_val (t : Fin cfg0.N) (y : S2x1x1024.Idx) (r : Fin 16384) (hr : r.val = 2048 * t.val + 1024 * (y 0).val + (y 2).val) :
    (outsAt0 m c t.val t.isLt).2.1 y = BitVec.ofNat 32 (pick (rows m c) (codes m c) r).val := by
  by_cases h : t.val % 8 = 0
  · have hs := scratch_at m c t.val t.isLt
    rw [scratch_A m c t h] at hs
    rw [outsAt0_A m c t h]
    frame_out
    canon_tiles x hx
    · exact i_hi m c t _ hs x r (by omega)
    · exact i_lo m c t _ hs x r (by omega)
  · have hs := scratch_at m c (t.val - 1) (Nat.lt_of_le_of_lt (Nat.sub_le _ _) t.isLt)
    rw [outsAt0_B m c t h]
    frame_out
    rw [read_unread_whole]
    canon_tiles x hx
    · exact i_hi m c t _ hs x r (by omega)
    · exact i_lo m c t _ hs x r (by omega)

/-- The smallest distance of row number `r` of the data, zero past the last row. -/
def least (r : Nat) : EReal :=
  if h : r < 16384 then vdist (rows m c) (codes m c) ⟨r, h⟩ (pick (rows m c) (codes m c) ⟨r, h⟩) else 0

/-- The first point leaves in the accumulator the smallest distances of its rows. -/
theorem acc_A (t : Fin cfg0.N) (h : t.val % 8 = 0) :
    (outsAt0 m c t.val t.isLt).2.2.1 (ix2 0 0) = 0 + ∑ r : Fin 2048, least m c (2048 * t.val + r.val) := by
  have ht : t.val < 8 := lt_of_lt_of_eq t.isLt N_0
  have hs := scratch_at m c t.val t.isLt
  rw [scratch_A m c t h] at hs
  rw [outsAt0_A m c t h]
  frame_out
  rw [acc_step m c t _ hs _ ht, zero_at]
  refine congrArg ((0 : EReal) + ·) (Finset.sum_congr rfl fun r _ => ?_)
  rw [least, dif_pos (by omega)]

/-- A later point adds to the accumulator the smallest distances of its rows. -/
theorem acc_B (t : Fin cfg0.N) (h : ¬ t.val % 8 = 0) :
    (outsAt0 m c t.val t.isLt).2.2.1 (ix2 0 0)
      = (outsAt0 m c (t.val - 1) (Nat.lt_of_le_of_lt (Nat.sub_le _ _) t.isLt)).2.2.1 (ix2 0 0) + ∑ r : Fin 2048, least m c (2048 * t.val + r.val) := by
  have ht : t.val < 8 := lt_of_lt_of_eq t.isLt N_0
  have hs := scratch_at m c (t.val - 1) (Nat.lt_of_le_of_lt (Nat.sub_le _ _) t.isLt)
  rw [outsAt0_B m c t h]
  frame_out
  rw [read_unread_whole, acc_step m c t _ hs _ ht]
  refine congrArg ((outsAt0 m c (t.val - 1) _).2.2.1 (ix2 0 0) + ·) (Finset.sum_congr rfl fun r _ => ?_)
  rw [least, dif_pos (by omega)]

/-- After a point the accumulator holds the smallest distances of all rows so far. -/
theorem acc_val (n : Nat) (hn : n < cfg0.N) :
    (outsAt0 m c n hn).2.2.1 (ix2 0 0) = ∑ t ∈ Finset.range (n + 1), ∑ r : Fin 2048, least m c (2048 * t + r.val) := by
  induction n with
  | zero => rw [acc_A m c ⟨0, hn⟩ rfl, zero_add, Finset.sum_range_one]
  | succ n ih =>
    have hN : n + 1 < 8 := lt_of_lt_of_eq hn N_0
    rw [acc_B m c ⟨n + 1, hn⟩ (by show ¬ (n + 1) % 8 = 0; omega), Finset.sum_range_succ]
    exact congrArg (· + ∑ r : Fin 2048, least m c (2048 * (n + 1) + r.val)) (ih _)

end Cert.Proof.Outs

end
-- ==== Proof.Arrays.lean ====
/- What the kernel's three output arrays hold after the run. -/
module

public import proofs.«01_k».proof.Proof.Outs

@[expose] public section

set_option maxRecDepth 16384

noncomputable section

namespace Cert.Proof.Arrays

open Cert.Proof.Vq Cert.Proof.Entry Cert.Proof.Outs Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The chosen rows of the codebook, one column per row of the data, in 16 pages of 1024 columns. -/
def qcols : FVec Ideal S16x64x1024 .f32 := fun i =>
  codes m c (pick (rows m c) (codes m c) ⟨1024 * (i 0).val + (i 2).val, by
    have h0 : (i 0).val < 16 := (i 0).isLt
    have h2 : (i 2).val < 1024 := (i 2).isLt
    omega⟩) (i 1)

/-- The numbers of the chosen rows, in 16 pages of 1024. -/
def icols : IVec S16x1x1024 32 := fun i =>
  BitVec.ofNat 32 (pick (rows m c) (codes m c) ⟨1024 * (i 0).val + (i 2).val, by
    have h0 : (i 0).val < 16 := (i 0).isLt
    have h2 : (i 2).val < 1024 := (i 2).isLt
    omega⟩).val

/-- The sum of all rows' smallest distances. -/
def total : EReal := ∑ r : Fin 16384, vdist (rows m c) (codes m c) r (pick (rows m c) (codes m c) r)

/-- After the last point the accumulator holds that sum. -/
theorem acc_last (h : 7 < cfg0.N) : (outsAt0 m c 7 h).2.2.1 (ix2 0 0) = total m c := by
  rw [acc_val m c 7 h, Finset.sum_range]
  unfold total
  refine Fin.sum_mul_add_congr fun t r hl => ?_
  have e : 2048 * t.val + r.val = t.val * 2048 + r.val := by omega
  rw [e, least, dif_pos hl]

/-- The first output array ends with the chosen rows. -/
theorem final_q : (dats m 0 c).arrAt 4 (cfgs 0).N = qcols m c := by
  refine (dats m 0 c).arrAt_eq_of_covers 4 _ (by decide +kernel) fun t _ y => ?_
  have ht : t.val < 8 := lt_of_lt_of_eq t.isLt N_0
  blk_simp
  rw [after0_4]
  unfold qcols
  refine q_val m c t _ _ _ ?_ ?_
  · blk_simp [idx t]
    show 1024 * (t.val * 2 + (y 0).val) + (y 2).val = _
    omega
  · blk_simp [idx t]

/-- The second output array ends with the chosen rows' numbers. -/
theorem final_i : (dats m 0 c).arrAt 5 (cfgs 0).N = icols m c := by
  refine (dats m 0 c).arrAt_eq_of_covers 5 _ (by decide +kernel) fun t _ y => ?_
  have ht : t.val < 8 := lt_of_lt_of_eq t.isLt N_0
  blk_simp
  rw [after0_5]
  unfold icols
  refine i_val m c t _ _ ?_
  blk_simp [idx t]
  show 1024 * (t.val * 2 + (y 0).val) + (y 2).val = _
  omega

/-- The third output array ends with the sum of the smallest distances. -/
theorem final_acc : (dats m 0 c).arrAt 6 (cfgs 0).N = fun _ => total m c := by
  refine (dats m 0 c).arrAt_eq_of_after_last 6 t0_7 (by decide +kernel) _ fun j => ?_
  blk_simp
  rw [after0_6]
  obtain rfl : j = ix2 0 0 := by blk_ext
  exact acc_last m c t0_7.isLt

end Cert.Proof.Arrays

end
-- ==== Proof.KernelRun.lean ====
/- The run of the kernel's program: what its three results hold. -/
module

public import proofs.«01_k».proof.Proof.Arrays

@[expose] public section

set_option maxRecDepth 16384

noncomputable section

namespace Cert.Proof.KernelRun

open Cert.Proof.Vq Cert.Proof.Entry Cert.Proof.Arrays Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The memory of a core between the kernel's blocks and the last operations. -/
abbrev mid : Valuation τ sig (Elt Ideal) :=
  Pipeline.withArrays (cfgs 0).spec c (V0 m c) fun w => (dats m 0 c).arrAt w (cfgs 0).N

/-- No two windows share an array. -/
theorem arr_inj : Function.Injective (Pipeline.arrRef (cfgs 0).spec) := by decide

/-- In between, the first output array holds the chosen rows. -/
theorem mid_q : mid m c (Proc.devRef .tc main_v4_0) = qcols m c :=
  (Pipeline.withArrays_arr (cfgs 0).spec arr_inj c _ _ 4).trans (final_q m c)

/-- In between, the second output array holds the chosen rows' numbers. -/
theorem mid_i : mid m c (Proc.devRef .tc main_v4_1) = icols m c :=
  (Pipeline.withArrays_arr (cfgs 0).spec arr_inj c _ _ 5).trans (final_i m c)

/-- In between, the third output array holds the sum of the smallest distances. -/
theorem mid_acc : mid m c (Proc.devRef .tc main_v4_2) = fun _ => total m c :=
  (Pipeline.withArrays_arr (cfgs 0).spec arr_inj c _ _ 6).trans (final_acc m c)

/-- The last operations give the first output array the shape of the first result. -/
theorem tail_q (W : Valuation τ sig (Elt Ideal)) : StableHlo.after hostOps1 W (Proc.devRef .tc main_v5)
    = shapeCast S16x64x32x32 (W (Proc.devRef .tc main_v4_0) : FVec Ideal S16x64x1024 .f32) shapeCasts_S16x64x1024_S16x64x32x32 := by
  after_results
  rfl

/-- The last operations give the second output array the shape of the second result. -/
theorem tail_i (W : Valuation τ sig (Elt Ideal)) : StableHlo.after hostOps1 W (Proc.devRef .tc main_v6)
    = shapeCast S16x1x32x32 (W (Proc.devRef .tc main_v4_1) : IVec S16x1x1024 32) shapeCasts_S16x1x1024_S16x1x32x32 := by
  after_results
  rfl

/-- The last operations scale the third output array's one number. -/
theorem tail_acc (W : Valuation τ sig (Elt Ideal)) : StableHlo.after hostOps1 W (Proc.devRef .tc main_v8)
    = mulf (F := Ideal) (shapeCast S_ (W (Proc.devRef .tc main_v4_2) : FVec Ideal S1x1 .f32) shapeCasts_S1x1_S_) (constant S_ .f32 0x34800000#32) := by
  after_results
  rfl

/-- The kernel's results are the chosen rows, their numbers and the scaled sum of the smallest distances, in the shapes of
    the results. -/
theorem run_results :
    θ_run defs (onTc (τ := τ) (main (F := Ideal))) ⟨m, fun _ => 0, ρ⟩ fun r =>
      ∀ c : Dev nD,
        r.2.mem ((c.tc : Thread nD τ).loc main_v5) = shapeCast S16x64x32x32 (qcols m c) shapeCasts_S16x64x1024_S16x64x32x32
        ∧ r.2.mem ((c.tc : Thread nD τ).loc main_v6) = shapeCast S16x1x32x32 (icols m c) shapeCasts_S16x1x1024_S16x1x32x32
        ∧ r.2.mem ((c.tc : Thread nD τ).loc main_v8)
            = mulf (F := Ideal) (shapeCast S_ (fun _ => total m c : FVec Ideal S1x1 .f32) shapeCasts_S1x1_S_) (constant S_ .f32 0x34800000#32) := by
  run_from Cert.KernelIdeal.Gen.run_main m ρ
  · exact (tail_q (mid m c)).trans (by rw [mid_q])
  · exact (tail_i (mid m c)).trans (by rw [mid_i])
  · exact (tail_acc (mid m c)).trans (by rw [mid_acc]; rfl)

/-- The kernel's program runs with those results and leaves its arguments alone. -/
theorem run_main :
    θ_run defs (onTc (τ := τ) (main (F := Ideal))) ⟨m, fun _ => 0, ρ⟩ fun r =>
      (∀ c : Dev nD,
        r.2.mem ((c.tc : Thread nD τ).loc main_v5) = shapeCast S16x64x32x32 (qcols m c) shapeCasts_S16x64x1024_S16x64x32x32
        ∧ r.2.mem ((c.tc : Thread nD τ).loc main_v6) = shapeCast S16x1x32x32 (icols m c) shapeCasts_S16x1x1024_S16x1x32x32
        ∧ r.2.mem ((c.tc : Thread nD τ).loc main_v8)
            = mulf (F := Ideal) (shapeCast S_ (fun _ => total m c : FVec Ideal S1x1 .f32) shapeCasts_S1x1_S_) (constant S_ .f32 0x34800000#32))
      ∧ ∀ c : Dev nD, r.2.mem ((c.tc : Thread nD τ).loc main_arg0) = m ((c.tc : Thread nD τ).loc main_arg0)
        ∧ r.2.mem ((c.tc : Thread nD τ).loc main_arg1) = m ((c.tc : Thread nD τ).loc main_arg1) :=
  θ_run_and (run_results m ρ) (unchanged m ρ)

end Cert.Proof.KernelRun

end
-- ==== Proof.ArgMin.lean ====
/- The reference's index of the smallest entry of a row of a table is the first such index. -/
module

public import proofs.«01_k».proof.Proof.RefRun
public import proofs.«01_k».proof.Proof.Math
public import Idealize.ShloMosaic.Lib.Pointwise

@[expose] public section

set_option maxRecDepth 16384

noncomputable section

namespace Cert.Proof.RefValue

open Cert.Proof.Vq Cert.ReferenceIdeal Cert.ReferenceIdeal.Gen
open Idealize.ShloMosaic Idealize.ShloMosaic.TcCoe Idealize.SL.Sem

/-- The pairs' order: first the values, then the indices read signed. -/
theorem key_lt (a b : EReal × BitVec 32) : key a < key b ↔ a.1 < b.1 ∨ a.1 = b.1 ∧ a.2.toInt < b.2.toInt :=
  Prod.Lex.lt_iff

/-- The reference's step keeps the smaller of two pairs. -/
theorem reducer_eq (a b : EReal × BitVec 32) :
    reducer_argmin_f32_i32 (F := Ideal) a b = if key a < key b then a else b := by
  obtain ⟨x, i⟩ := a
  obtain ⟨y, j⟩ := b
  have hne : FloatOps.cmpf (F := Ideal) (φ := .f32) .une x x = 0#1 := by
    show BitVec.ofBool (decide (x ≠ x)) = 0#1
    simp
  have hlt : FloatOps.cmpf (F := Ideal) (φ := .f32) .olt x y = BitVec.ofBool (decide (x < y)) := rfl
  have heq : FloatOps.cmpf (F := Ideal) (φ := .f32) .oeq x y = BitVec.ofBool (decide (x = y)) := rfl
  have hsl : IntOp.cmpi .slt i j = BitVec.ofBool (decide (i.toInt < j.toInt)) := rfl
  unfold reducer_argmin_f32_i32
  simp only [hne, hlt, heq, hsl, key_lt]
  rcases lt_trichotomy x y with h | h | h
  · simp [h, h.ne, Scalar.select, IntOp.ori, IntOp.andi]
  · subst h
    by_cases h' : i.toInt < j.toInt <;> simp [h', Scalar.select, IntOp.ori, IntOp.andi]
  · simp [h.not_gt, h.ne', Scalar.select, IntOp.ori, IntOp.andi]

section

variable {N : Nat} (h : (⟨2, ![N, 1024]⟩ : Shape).ReducesTo [1] ⟨1, ![N]⟩) {u : Shape} (hu : 0 < u.numel)
  (d : FVec Ideal ⟨2, ![N, 1024]⟩ .f32) (y : IVec ⟨2, ![N, 1024]⟩ 32)

/-- No entry is unequal to itself. -/
theorem no_nan (j : (⟨1, ![N]⟩ : Shape).Idx) : (Host.argReduceNaNs d y h j).length ≤ 1 := by
  have : Host.argReduceNaNs d y h j = [] := by
    refine List.eq_nil_iff_forall_not_mem.mpr fun p hp => ?_
    have h := ((Host.mem_argReduceNaNs_iff d y h j p).mp hp).2
    have h' : BitVec.ofBool (decide (p.1 ≠ p.1)) = 1#1 := h
    simp at h'
  rw [this]
  exact Nat.zero_le _

/-- The entries that reduce to a row are those of that row. -/
theorem drop_row (r : Fin N) (i : (⟨2, ![N, 1024]⟩ : Shape).Idx) : h.drop i = ix1 r ↔ (i 0).val = r.val := by
  have hv : (h.drop i 0 : Nat) = i 0 := Shape.ReducesTo.drop_apply_val h i 0
  constructor
  · intro e
    rw [e] at hv
    exact hv.symm
  · intro e
    funext b
    obtain rfl : b = 0 := Subsingleton.elim _ _
    exact Fin.ext (hv.trans e)

/-- The pairs of a row are its entries, each with its index. -/
theorem mem_row (hy : ∀ r n, y (ix2 r n) = BitVec.ofNat 32 n.val) (r : Fin N) (p : EReal × BitVec 32) :
    p ∈ Host.argReduceFiber d y h (ix1 r) ↔ ∃ n : Fin 1024, p = (d (ix2 r n), BitVec.ofNat 32 n.val) := by
  unfold Host.argReduceFiber
  rw [List.mem_map]
  constructor
  · rintro ⟨k, hk, rfl⟩
    have h0 := (drop_row h r _).mp (of_decide_eq_true (List.mem_filter.mp hk).2)
    generalize (⟨2, ![N, 1024]⟩ : Shape).rowMajor.symm k = i at h0
    have e : i = ix2 r (i 1) := by
      funext b
      match b with
      | ⟨0, _⟩ => exact Fin.ext h0
      | ⟨1, _⟩ => rfl
    exact ⟨i 1, Prod.ext (congrArg d e) ((congrArg y e).trans (hy r (i 1)))⟩
  · rintro ⟨n, rfl⟩
    refine ⟨(⟨2, ![N, 1024]⟩ : Shape).rowMajor (ix2 r n), List.mem_filter.mpr ⟨List.mem_finRange _, decide_eq_true ?_⟩, ?_⟩
    · rw [Equiv.symm_apply_apply]
      exact (drop_row h r _).mpr rfl
    · rw [Equiv.symm_apply_apply, hy]

/-- The reference's index of a row is the first index of a smallest entry. -/
theorem argReduce_row (hy : ∀ r n, y (ix2 r n) = BitVec.ofNat 32 n.val) (a : FVec Ideal u .f32) (b : IVec u 32)
    (ha : a (Shape.Idx.first hu) = (⊤ : EReal)) (hb : b (Shape.Idx.first hu) = 0#32) (r : Fin N) :
    (Host.argReduce (reducer_argmin_f32_i32 (F := Ideal)) d y a b h hu (ix1 r)).2 = BitVec.ofNat 32 (first fun n => d (ix2 r n)).val := by
  rw [Host.argReduce_apply_eq_reduce2 _ _ _ _ _ _ _ _ (no_nan h d y _), Host.reduce2_eq_foldl_fiber, ha, hb]
  exact foldl_first _ reducer_eq _ _ (mem_row h d y hy r)

end

/-- The constant the reference's search starts from is the top. -/
theorem start_top : constant (F := Ideal) S_ .f32 0x7F800000#32 (Shape.Idx.first h_S_) = (⊤ : EReal) := c_top

/-- The reference's array of indices. -/
theorem iota_at (r : Fin 16384) (n : Fin 1024) : iotaInDim S16384x1024 32 1 (ix2 r n) = BitVec.ofNat 32 n.val := rfl

/-- The reference's search is the search of the reference's own table. -/
theorem argm_eq (d : FVec Ideal S16384x1024 .f32) : Ref.argm d = fun j =>
    (Host.argReduce reducer_argmin_f32_i32 d (iotaInDim S16384x1024 32 1) (constant S_ .f32 0x7F800000#32)
      (constantI S_ 32 0#32) reducesTo_S16384x1024_S16384_d1 h_S_ j).2 := by
  delta Ref.argm
  with_reducible rfl

/-- The reference's index of a row of its own table is the first index of a smallest entry. -/
theorem argm_at (d : FVec Ideal S16384x1024 .f32) (r : Fin 16384) :
    Ref.argm d (ix1 r) = BitVec.ofNat 32 (first fun n => d (ix2 r n)).val :=
  (congrFun (argm_eq d) (ix1 r)).trans
    (argReduce_row reducesTo_S16384x1024_S16384_d1 h_S_ d (iotaInDim S16384x1024 32 1) iota_at (constant (F := Ideal) S_ .f32 0x7F800000#32)
      (constantI S_ 32 0#32) start_top rfl r)

end Cert.Proof.RefValue

end
-- ==== Proof.RefValue.lean ====
/- What the reference's functions hold, read at an index. -/
module

public import proofs.«01_k».proof.Proof.ArgMin
public import Idealize.ShloMosaic.Lib.Pipeline.ValueKit

@[expose] public section

set_option maxRecDepth 16384

noncomputable section

namespace Cert.Proof.RefValue

open Cert.Proof.Vq Cert.ReferenceIdeal Cert.ReferenceIdeal.Gen
open Idealize.ShloMosaic Idealize.ShloMosaic.TcCoe Idealize.SL.Sem

variable (z : FVec Ideal S16x32x32x64 .f32) (e : FVec Ideal S1024x64 .f32)

/-- The data's rows. -/
def zrow (r : Fin 16384) (k : Fin 64) : EReal :=
  z (ix4 ⟨r.val / 1024, by omega⟩ ⟨r.val / 32 % 32, by omega⟩ ⟨r.val % 32, by omega⟩ k)
/-- The codebook's rows. -/
def crow (n : Fin 1024) (k : Fin 64) : EReal := e (ix2 n k)

/-- The reference's rows of the data. -/
theorem flat_at (r : Fin 16384) (k : Fin 64) : Ref.flat (F := Ideal) z (ix2 r k) = zrow z r k := by
  unfold zrow
  pointwise [Ref.flat]

/-- The reference's table of distances, for finite arguments. -/
theorem dist_at (hz : ∀ i, Fin' (z i)) (he : ∀ i, Fin' (e i)) (r : Fin 16384) (n : Fin 1024) :
    Ref.dist (F := Ideal) z e (ix2 r n) = vdist (zrow z) (crow e) r n := by
  pointwise [Ref.dist]
  simp only [flat_at]
  rw [c_two, sum_two (fun k => zrow z r k) (fun k => e (ix2 n k)) (fun k => hz _) (fun k => he _)]
  rfl

/-- The reference's table of ones and zeros. -/
theorem hot_at (i : IVec S16384 32) (r : Fin 16384) (n : Fin 1024) :
    Ref.hot (F := Ideal) i (ix2 r n) = FloatOps.uitofp (F := Ideal) .f32 (IntOp.cmpi .eq (i (ix1 r)) (BitVec.ofNat 32 n.val)) := by
  pointwise [Ref.hot]

/-- The reference's product of a table with the codebook. -/
theorem quant_at (h : FVec Ideal S16384x1024 .f32) (b : Fin 16) (x y : Fin 32) (k : Fin 64) (hl : 1024 * b.val + 32 * x.val + y.val < 16384) :
    Ref.quant (F := Ideal) h e (ix4 b x y k) = ∑ n : Fin 1024, h (ix2 ⟨1024 * b.val + 32 * x.val + y.val, hl⟩ n) * e (ix2 n k) := by
  pointwise [Ref.quant]
  have hr : (⟨b.val * 1024 + x.val * 32 + y.val, by omega⟩ : Fin 16384) = ⟨1024 * b.val + 32 * x.val + y.val, hl⟩ := Fin.ext (by
    show b.val * 1024 + x.val * 32 + y.val = 1024 * b.val + 32 * x.val + y.val
    omega)
  rw [hr]

/-- The reference's first result. -/
theorem outQ_at (q : FVec Ideal S16x32x32x64 .f32) (b : Fin 16) (k : Fin 64) (x y : Fin 32) :
    Ref.outQ (F := Ideal) z q (ix4 b k x y) = z (ix4 b x y k) + (q (ix4 b x y k) - z (ix4 b x y k)) := by
  pointwise [Ref.outQ]

/-- The reference's second result. -/
theorem outI_at (i : IVec S16384 32) (b : Fin 16) (x y : Fin 32) (hl : 1024 * b.val + 32 * x.val + y.val < 16384) :
    Ref.outI i (ix4 b 0 x y) = i (ix1 ⟨1024 * b.val + 32 * x.val + y.val, hl⟩) := by
  pointwise [Ref.outI]
  blk_ext

/-- The reference's third result. -/
theorem outL_at (f : FVec Ideal S16384x64 .f32) (q : FVec Ideal S16x32x32x64 .f32) (j : S_.Idx) :
    Ref.outL (F := Ideal) f q j = (∑ r : Fin 16384, ∑ k : Fin 64, (zrow q r k - f (ix2 r k)) * (zrow q r k - f (ix2 r k)))
      * ((1 / 4194304 : ℝ) : EReal) := by
  pointwise [Ref.outL]
  rw [c_count, c_quarter, mean_quarter]
  rfl

end Cert.Proof.RefValue

end
-- ==== Proof.RefResult.lean ====
/- What the reference's three results hold for finite arguments. -/
module

public import proofs.«01_k».proof.Proof.RefValue

@[expose] public section

set_option maxRecDepth 16384

noncomputable section

namespace Cert.Proof.RefValue

open Cert.Proof.Vq Cert.ReferenceIdeal Cert.ReferenceIdeal.Gen
open Idealize.ShloMosaic Idealize.ShloMosaic.TcCoe Idealize.SL.Sem

variable (z : FVec Ideal S16x32x32x64 .f32) (e : FVec Ideal S1024x64 .f32) (hz : ∀ i, Fin' (z i)) (he : ∀ i, Fin' (e i))

/-- The reference's chosen rows, in the shape of the data. -/
def chosen : FVec Ideal S16x32x32x64 .f32 := Ref.quant (Ref.hot (Ref.argm (Ref.dist z e))) e

include hz he

/-- The reference's index of every row is the number of the nearest row of the codebook. -/
theorem index_at (r : Fin 16384) : Ref.argm (Ref.dist z e) (ix1 r) = BitVec.ofNat 32 (pick (zrow z) (crow e) r).val := by
  rw [argm_at]
  have h : (fun n => Ref.dist (F := Ideal) z e (ix2 r n)) = vdist (zrow z) (crow e) r := funext fun n => dist_at z e hz he r n
  exact congrArg (fun d : Fin 1024 → EReal => BitVec.ofNat 32 (first d).val) h

/-- The reference's chosen rows are the nearest rows of the codebook. -/
theorem chosen_at (b : Fin 16) (x y : Fin 32) (k : Fin 64) (hl : 1024 * b.val + 32 * x.val + y.val < 16384) :
    chosen z e (ix4 b x y k) = crow e (pick (zrow z) (crow e) ⟨1024 * b.val + 32 * x.val + y.val, hl⟩) k := by
  unfold chosen
  rw [quant_at _ _ _ _ _ _ hl]
  refine sum_hot_left (fun n => e (ix2 n k)) (pick (zrow z) (crow e) ⟨1024 * b.val + 32 * x.val + y.val, hl⟩) _ fun n => ?_
  rw [hot_at, index_at z e hz he]
  exact hot_unsigned _ n

/-- The same, row by row. -/
theorem chosen_row (r : Fin 16384) (k : Fin 64) : zrow (chosen z e) r k = crow e (pick (zrow z) (crow e) r) k := by
  have hr : 1024 * (r.val / 1024) + 32 * (r.val / 32 % 32) + r.val % 32 = r.val := by omega
  unfold zrow
  rw [chosen_at z e hz he _ _ _ _ (by show 1024 * (r.val / 1024) + 32 * (r.val / 32 % 32) + r.val % 32 < 16384; omega)]
  have hr' : (⟨1024 * (r.val / 1024) + 32 * (r.val / 32 % 32) + r.val % 32, by omega⟩ : Fin 16384) = r := Fin.ext hr
  exact congrArg (fun r => crow e (pick (zrow z) (crow e) r) k) hr'

/-- The reference's first result holds the nearest rows of the codebook. -/
theorem first_result (b : Fin 16) (k : Fin 64) (x y : Fin 32) (hl : 1024 * b.val + 32 * x.val + y.val < 16384) :
    Ref.outQ (F := Ideal) z (chosen z e) (ix4 b k x y) = crow e (pick (zrow z) (crow e) ⟨1024 * b.val + 32 * x.val + y.val, hl⟩) k := by
  rw [outQ_at, add_sub_self (hz _), chosen_at z e hz he _ _ _ _ hl]

/-- The reference's second result holds their numbers. -/
theorem second_result (b : Fin 16) (x y : Fin 32) (hl : 1024 * b.val + 32 * x.val + y.val < 16384) :
    Ref.outI (Ref.argm (Ref.dist (F := Ideal) z e)) (ix4 b 0 x y)
      = BitVec.ofNat 32 (pick (zrow z) (crow e) ⟨1024 * b.val + 32 * x.val + y.val, hl⟩).val := by
  rw [outI_at _ _ _ _ hl, index_at z e hz he]

/-- The reference's third result is the scaled sum of the smallest distances. -/
theorem third_result (j : S_.Idx) : Ref.outL (F := Ideal) (Ref.flat z) (chosen z e) j
    = (∑ r : Fin 16384, vdist (zrow z) (crow e) r (pick (zrow z) (crow e) r)) * ((1 / 4194304 : ℝ) : EReal) := by
  rw [outL_at]
  refine congrArg (· * ((1 / 4194304 : ℝ) : EReal)) (Finset.sum_congr rfl fun r _ => ?_)
  simp only [flat_at, chosen_row z e hz he]
  exact (sq_dist (fun k => zrow z r k) (fun k => crow e (pick (zrow z) (crow e) r) k) (fun k => hz _) (fun k => he _)).symm

end Cert.Proof.RefValue

end
-- ==== Proof.Equation.lean ====
/- The kernel's results are the reference's, for finite arguments. -/
module

public import proofs.«01_k».proof.Proof.KernelRun
public import proofs.«01_k».proof.Proof.RefResult

@[expose] public section

set_option maxRecDepth 16384

noncomputable section

namespace Cert.Proof.Equation

open Cert.Proof.Vq Cert.Proof.Entry Cert.Proof.Arrays Cert.Proof.RefValue Cert.KernelIdeal Cert.KernelIdeal.Gen
open Idealize.ShloMosaic Idealize.ShloMosaic.TcCoe Idealize.SL.Sem

variable (m : (ℓ : Loc nD τ sig) → Buf (Elt Ideal) ℓ) (c : Dev nD)
  (hz : ∀ i, Fin' (zarr m c i)) (he : ∀ i, Fin' (earr m c i))

/-- Both sides read the same rows of the data. -/
theorem rows_eq : rows m c = zrow (zarr m c) := rfl

/-- Both sides read the same rows of the codebook. -/
theorem codes_eq : codes m c = crow (earr m c) := rfl

/-- The kernel's first result, read at an index. -/
theorem qcols_at (b : Fin 16) (k : Fin 64) (x y : Fin 32) (hl : 1024 * b.val + 32 * x.val + y.val < 16384) :
    shapeCast S16x64x32x32 (qcols m c) shapeCasts_S16x64x1024_S16x64x32x32 (ix4 b k x y)
      = crow (earr m c) (pick (zrow (zarr m c)) (crow (earr m c)) ⟨1024 * b.val + 32 * x.val + y.val, hl⟩) k := by
  pointwise
  have hr : (⟨1024 * b.val + (x.val * 32 + y.val), by omega⟩ : Fin 16384) = ⟨1024 * b.val + 32 * x.val + y.val, hl⟩ := Fin.ext (by
    show 1024 * b.val + (x.val * 32 + y.val) = 1024 * b.val + 32 * x.val + y.val
    omega)
  exact congrArg (fun r => crow (earr m c) (pick (zrow (zarr m c)) (crow (earr m c)) r) k) hr

/-- The kernel's second result, read at an index. -/
theorem icols_at (b : Fin 16) (x y : Fin 32) (hl : 1024 * b.val + 32 * x.val + y.val < 16384) :
    shapeCast S16x1x32x32 (icols m c) shapeCasts_S16x1x1024_S16x1x32x32 (ix4 b 0 x y)
      = BitVec.ofNat 32 (pick (zrow (zarr m c)) (crow (earr m c)) ⟨1024 * b.val + 32 * x.val + y.val, hl⟩).val := by
  pointwise
  have hr : (⟨1024 * b.val + (x.val * 32 + y.val), by omega⟩ : Fin 16384) = ⟨1024 * b.val + 32 * x.val + y.val, hl⟩ := Fin.ext (by
    show 1024 * b.val + (x.val * 32 + y.val) = 1024 * b.val + 32 * x.val + y.val
    omega)
  exact congrArg (fun r => BitVec.ofNat 32 (pick (zrow (zarr m c)) (crow (earr m c)) r).val) hr

/-- The kernel's third result. -/
theorem scaled_at (j : S_.Idx) :
    mulf (F := Ideal) (shapeCast S_ (fun _ => total m c : FVec Ideal S1x1 .f32) shapeCasts_S1x1_S_) (constant S_ .f32 0x34800000#32) j
      = total m c * ((1 / 4194304 : ℝ) : EReal) := by
  pointwise
  rw [c_scale]

include hz he

/-- The first results agree. -/
theorem first_eq : shapeCast S16x64x32x32 (qcols m c) shapeCasts_S16x64x1024_S16x64x32x32
    = Ref.outQ (F := Ideal) (zarr m c) (chosen (zarr m c) (earr m c)) := by
  funext j
  obtain ⟨b, k, x, y, rfl⟩ : ∃ (b : Fin 16) (k : Fin 64) (x y : Fin 32), j = ix4 b k x y := ⟨j 0, j 1, j 2, j 3, by blk_ext⟩
  have hl : 1024 * b.val + 32 * x.val + y.val < 16384 := by omega
  exact (qcols_at m c b k x y hl).trans (first_result _ _ hz he b k x y hl).symm

/-- The second results agree. -/
theorem second_eq : shapeCast S16x1x32x32 (icols m c) shapeCasts_S16x1x1024_S16x1x32x32
    = Ref.outI (Ref.argm (Ref.dist (F := Ideal) (zarr m c) (earr m c))) := by
  funext j
  obtain ⟨b, k, x, y, rfl⟩ : ∃ (b : Fin 16) (k : Fin 1) (x y : Fin 32), j = ix4 b k x y := ⟨j 0, j 1, j 2, j 3, by blk_ext⟩
  obtain rfl : k = 0 := Subsingleton.elim _ _
  have hl : 1024 * b.val + 32 * x.val + y.val < 16384 := by omega
  exact (icols_at m c b x y hl).trans (second_result _ _ hz he b x y hl).symm

/-- The third results agree. -/
theorem third_eq :
    mulf (F := Ideal) (shapeCast S_ (fun _ => total m c : FVec Ideal S1x1 .f32) shapeCasts_S1x1_S_) (constant S_ .f32 0x34800000#32)
      = Ref.outL (F := Ideal) (Ref.flat (zarr m c)) (chosen (zarr m c) (earr m c)) := by
  funext j
  exact (scaled_at m c j).trans (third_result _ _ hz he j).symm

end Cert.Proof.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.RefRun
public import proofs.«01_k».proof.Proof.Finite
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The reference runs to an end, leaves its arguments alone and every semaphore counter at zero. -/
theorem reference_frame : Cert.quiescent_ReferenceIdeal := by
  intro m ρ _
  exact (θ_run Cert.ReferenceIdeal.defs _ _).mono (fun r h => ⟨fun c => (h c).2.2.2, sem_eq_zero_of_no_sems (by decide) r.2⟩)
    (Cert.Proof.Ref.run_main (F := Ideal) m ρ)

/-- From finite arguments the kernel and the reference end with the same three results. -/
theorem same_results : Cert.algebraic_KernelIdeal_ReferenceIdeal_pre_finite := by
  intro m g m' g' hpre hagree
  have hfin := fun c => Finite.finite_of_pre (Entry.zarr m c) (Entry.earr m c) (hpre c)
  refine ⟨_, _, _, (θ_run Cert.KernelIdeal.defs _ _).mono
    (fun r h c => ⟨(h.1 c).1, (h.1 c).2.1, (h.1 c).2.2, (h.2 c).1, (h.2 c).2⟩) (KernelRun.run_main m g),
    (θ_run Cert.ReferenceIdeal.defs _ _).mono (fun r h c => ?_) (Ref.run_main (F := Ideal) m' g')⟩
  obtain ⟨h1, h2, h3, h4⟩ := h c
  obtain ⟨a0, a1⟩ := hagree c
  rw [a0, a1] at h1 h2 h3
  exact ⟨h1.trans (Equation.first_eq m c (hfin c).1 (hfin c).2).symm, h2.trans (Equation.second_eq m c (hfin c).1 (hfin c).2).symm,
    h3.trans (Equation.third_eq m c (hfin c).1 (hfin c).2).symm, h4⟩

/-- Every claim of the certificate. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, same_results⟩

end Cert.Proof

end
